-- ==== Defs.lean ====
def Pre_Kernel [hPre_cells_in_range : Cert.Pre_cells_in_range.Facts] (m : (ℓ : Loc Cert.Kernel.nD Cert.Kernel.τ Cert.Kernel.sig) → Buf (Elt Bits) ℓ) : Prop :=
  ∀ c : Dev Cert.Kernel.nD,
    (Cert.Pre_cells_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_cells_in_range : Cert.Pre_cells_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_cells_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_on_the_mesh [hPre_on_the_mesh : Cert.Pre_on_the_mesh.Facts] (m : (ℓ : Loc Cert.KernelIdeal.nD Cert.KernelIdeal.τ Cert.KernelIdeal.sig) → Buf (Elt Ideal) ℓ) : Prop :=
  ∀ c : Dev Cert.KernelIdeal.nD,
    (Cert.Pre_on_the_mesh.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_on_the_mesh [hPre_on_the_mesh : Cert.Pre_on_the_mesh.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_on_the_mesh.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_cells_in_range : Cert.Pre_cells_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_cells_in_range : Cert.Pre_cells_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_on_the_mesh [hKernelIdeal : Cert.KernelIdeal.Facts] [hPre_on_the_mesh : Cert.Pre_on_the_mesh.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_on_the_mesh m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_on_the_mesh [hReferenceIdeal : Cert.ReferenceIdeal.Facts] [hPre_on_the_mesh : Cert.Pre_on_the_mesh.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_on_the_mesh m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_on_the_mesh [hKernelIdeal : Cert.KernelIdeal.Facts] [hReferenceIdeal : Cert.ReferenceIdeal.Facts] [hPre_on_the_mesh : Cert.Pre_on_the_mesh.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_on_the_mesh m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_cells_in_range : Cert.Pre_cells_in_range.Facts) (hPre_on_the_mesh : Cert.Pre_on_the_mesh.Facts),
    quiescent_Kernel (hKernel := hKernel) (hPre_cells_in_range := hPre_cells_in_range)
    ∧ quiescent_KernelIdeal (hKernelIdeal := hKernelIdeal) (hPre_cells_in_range := hPre_cells_in_range)
    ∧ quiescent_KernelIdeal_pre_on_the_mesh (hKernelIdeal := hKernelIdeal) (hPre_on_the_mesh := hPre_on_the_mesh)
    ∧ quiescent_ReferenceIdeal (hReferenceIdeal := hReferenceIdeal)
    ∧ quiescent_ReferenceIdeal_pre_on_the_mesh (hReferenceIdeal := hReferenceIdeal) (hPre_on_the_mesh := hPre_on_the_mesh)
    ∧ preserves_Kernel_KernelIdeal
    ∧ algebraic_KernelIdeal_ReferenceIdeal_pre_on_the_mesh (hKernelIdeal := hKernelIdeal) (hReferenceIdeal := hReferenceIdeal) (hPre_on_the_mesh := hPre_on_the_mesh)
-- ==== Pre_cells_in_range.lean ====
abbrev S16x8192x2 : Shape := ⟨3, ![16, 8192, 2]⟩
abbrev S16641 : Shape := ⟨1, ![16641]⟩
abbrev S32768x2x2 : Shape := ⟨3, ![32768, 2, 2]⟩
abbrev S32768x2 : Shape := ⟨2, ![32768, 2]⟩
abbrev S32768x3 : Shape := ⟨2, ![32768, 3]⟩
abbrev S_ : Shape := ⟨0, ![]⟩

class Facts : Prop where
  bcast_S_S16x8192x2 : S_.BroadcastsInDim S16x8192x2 (![] : Fin 0 → Fin S16x8192x2.rank)

variable [Facts]

def fn {F : FTy → Type} [FloatOps F] (main_arg0 : FVec F S16x8192x2 .f32) (main_arg1 : FVec F S16641 .f32) (main_arg2 : FVec F S16641 .f32) (main_arg3 : FVec F S32768x2x2 .f32) (main_arg4 : FVec F S32768x2 .f32) (main_arg5 : IVec S32768x3 32) : IVec S16x8192x2 1 :=
  let main_cst : FVec F S_ .f32 := constant S_ .f32 0x43000000#32
  let main_v0 : FVec F S16x8192x2 .f32 := broadcastInDim S16x8192x2 ![] bcast_S_S16x8192x2 main_cst
  let main_v1 : FVec F S16x8192x2 .f32 := mulf main_arg0 main_v0
  let main_v2 : IVec S16x8192x2 32 := fptosi 32 main_v1
  let main_c : IVec S_ 32 := constantI S_ 32 0#32
  let main_v3 : IVec S16x8192x2 32 := broadcastInDim S16x8192x2 ![] bcast_S_S16x8192x2 main_c
  let main_v4 : IVec S16x8192x2 1 := cmpi .sge main_v2 main_v3
  let main_c_0 : IVec S_ 32 := constantI S_ 32 128#32
  let main_v5 : IVec S16x8192x2 32 := broadcastInDim S16x8192x2 ![] bcast_S_S16x8192x2 main_c_0
  let main_v6 : IVec S16x8192x2 1 := cmpi .slt main_v2 main_v5
  let main_v7 : IVec S16x8192x2 1 := andi main_v4 main_v6
  main_v7
-- ==== Pre_on_the_mesh.lean ====
abbrev S16x8192x2 : Shape := ⟨3, ![16, 8192, 2]⟩
abbrev S16641 : Shape := ⟨1, ![16641]⟩
abbrev S32768x2x2 : Shape := ⟨3, ![32768, 2, 2]⟩
abbrev S32768x2 : Shape := ⟨2, ![32768, 2]⟩
abbrev S32768x3 : Shape := ⟨2, ![32768, 3]⟩
abbrev S_ : Shape := ⟨0, ![]⟩
abbrev S32768 : Shape := ⟨1, ![32768]⟩
abbrev S32768x1x1 : Shape := ⟨3, ![32768, 1, 1]⟩
abbrev S32768x1 : Shape := ⟨2, ![32768, 1]⟩

class Facts : Prop where
  bcast_S_S16x8192x2 : S_.BroadcastsInDim S16x8192x2 (![] : Fin 0 → Fin S16x8192x2.rank)
  bcast_S_S32768 : S_.BroadcastsInDim S32768 (![] : Fin 0 → Fin S32768.rank)
  reducesTo_S16x8192x2_S_d0_1_2 : S16x8192x2.ReducesTo [0, 1, 2] S_
  h_S_ : 0 < S_.numel
  slices_S32768x2x2_S32768x1x1_0_0_0 : S32768x2x2.Slices ![0, 0, 0] S32768x1x1
  shapeCasts_S32768x1x1_S32768 : S32768x1x1.ShapeCasts S32768
  reducesTo_S32768_S_d0 : S32768.ReducesTo [0] S_
  slices_S32768x2x2_S32768x1x1_0_0_1 : S32768x2x2.Slices ![0, 0, 1] S32768x1x1
  slices_S32768x2x2_S32768x1x1_0_1_0 : S32768x2x2.Slices ![0, 1, 0] S32768x1x1
  slices_S32768x2x2_S32768x1x1_0_1_1 : S32768x2x2.Slices ![0, 1, 1] S32768x1x1
  slices_S32768x2_S32768x1_0_0 : S32768x2.Slices ![0, 0] S32768x1
  shapeCasts_S32768x1_S32768 : S32768x1.ShapeCasts S32768
  slices_S32768x2_S32768x1_0_1 : S32768x2.Slices ![0, 1] S32768x1
  slices_S32768x3_S32768x1_0_0 : S32768x3.Slices ![0, 0] S32768x1
  slices_S32768x3_S32768x1_0_1 : S32768x3.Slices ![0, 1] S32768x1
  slices_S32768x3_S32768x1_0_2 : S32768x3.Slices ![0, 2] S32768x1

variable [Facts]

def fn_where {F : FTy → Type} [FloatOps F] (arg0 : IVec S32768 1) (arg1 : FVec F S_ .f32) (arg2 : FVec F S_ .f32) : FVec F S32768 .f32 :=
  let v0 : FVec F S32768 .f32 := broadcastInDim S32768 ![] bcast_S_S32768 arg1
  let v1 : FVec F S32768 .f32 := broadcastInDim S32768 ![] bcast_S_S32768 arg2
  let v2 : FVec F S32768 .f32 := select arg0 v0 v1
  v2

def fn_where_0 {F : FTy → Type} [FloatOps F] (arg0 : IVec S32768 1) (arg1 : IVec S32768 32) (arg2 : IVec S32768 32) : IVec S32768 32 :=
  let v0 : IVec S32768 32 := select arg0 arg1 arg2
  v0

def fn_part5 {F : FTy → Type} [FloatOps F] (main_v5 : IVec S32768 32) (main_v14 : IVec S32768 32) (main_v87 : IVec S_ 1) (main_v89 : IVec S32768 32) (main_c_27 : IVec S_ 32) : IVec S_ 1 :=
  let main_v90 : IVec S32768 32 := broadcastInDim S32768 ![] bcast_S_S32768 main_c_27
  let main_v91 : IVec S32768 1 := cmpi .eq main_v5 main_v90
  let main_c_28 : IVec S_ 32 := constantI S_ 32 1#32
  let main_v92 : IVec S32768 32 := broadcastInDim S32768 ![] bcast_S_S32768 main_c_28
  let main_v93 : IVec S32768 32 := addi main_v14 main_v92
  let main_c_29 : IVec S_ 32 := constantI S_ 32 129#32
  let main_v94 : IVec S32768 32 := broadcastInDim S32768 ![] bcast_S_S32768 main_c_29
  let main_v95 : IVec S32768 32 := addi main_v14 main_v94
  let main_v96 : IVec S32768 32 := fn_where_0 (F := F) main_v91 main_v93 main_v95
  let main_v97 : IVec S32768 1 := cmpi .eq main_v89 main_v96
  let main_c_30 : IVec S_ 1 := constantI S_ 1 1#1
  let main_v98 : IVec S_ 1 := (fun x v => Host.reduce IntOp.andi x v reducesTo_S32768_S_d0 h_S_) main_v97 main_c_30
  let main_v99 : IVec S_ 1 := andi main_v87 main_v98
  main_v99

def fn_part4 {F : FTy → Type} [FloatOps F] (main_arg5 : IVec S32768x3 32) (main_v5 : IVec S32768 32) (main_v14 : IVec S32768 32) (main_v65 : IVec S_ 1) (main_v67 : IVec S32768 32) (main_v69 : IVec S32768 1) (main_v71 : IVec S32768 32) : IVec S_ 1 :=
  let main_v72 : IVec S32768 32 := fn_where_0 (F := F) main_v69 main_v71 main_v14
  let main_v73 : IVec S32768 1 := cmpi .eq main_v67 main_v72
  let main_c_22 : IVec S_ 1 := constantI S_ 1 1#1
  let main_v74 : IVec S_ 1 := (fun x v => Host.reduce IntOp.andi x v reducesTo_S32768_S_d0 h_S_) main_v73 main_c_22
  let main_v75 : IVec S_ 1 := andi main_v65 main_v74
  let main_v76 : IVec S32768x1 32 := (extractStridedSlice S32768x1 ![0, 1] · slices_S32768x3_S32768x1_0_1) main_arg5
  let main_v77 : IVec S32768 32 := shapeCast S32768 main_v76 shapeCasts_S32768x1_S32768
  let main_c_23 : IVec S_ 32 := constantI S_ 32 1#32
  let main_v78 : IVec S32768 32 := broadcastInDim S32768 ![] bcast_S_S32768 main_c_23
  let main_v79 : IVec S32768 1 := cmpi .eq main_v5 main_v78
  let main_c_24 : IVec S_ 32 := constantI S_ 32 129#32
  let main_v80 : IVec S32768 32 := broadcastInDim S32768 ![] bcast_S_S32768 main_c_24
  let main_v81 : IVec S32768 32 := addi main_v14 main_v80
  let main_c_25 : IVec S_ 32 := constantI S_ 32 1#32
  let main_v82 : IVec S32768 32 := broadcastInDim S32768 ![] bcast_S_S32768 main_c_25
  let main_v83 : IVec S32768 32 := addi main_v14 main_v82
  let main_v84 : IVec S32768 32 := fn_where_0 (F := F) main_v79 main_v81 main_v83
  let main_v85 : IVec S32768 1 := cmpi .eq main_v77 main_v84
  let main_c_26 : IVec S_ 1 := constantI S_ 1 1#1
  let main_v86 : IVec S_ 1 := (fun x v => Host.reduce IntOp.andi x v reducesTo_S32768_S_d0 h_S_) main_v85 main_c_26
  let main_v87 : IVec S_ 1 := andi main_v75 main_v86
  let main_v88 : IVec S32768x1 32 := (extractStridedSlice S32768x1 ![0, 2] · slices_S32768x3_S32768x1_0_2) main_arg5
  let main_v89 : IVec S32768 32 := shapeCast S32768 main_v88 shapeCasts_S32768x1_S32768
  let main_c_27 : IVec S_ 32 := constantI S_ 32 1#32
  fn_part5 (F := F) main_v5 main_v14 main_v87 main_v89 main_c_27

def fn_part3 {F : FTy → Type} [FloatOps F] (main_arg4 : FVec F S32768x2 .f32) (main_arg5 : IVec S32768x3 32) (main_v5 : IVec S32768 32) (main_v11 : IVec S32768 32) (main_v14 : IVec S32768 32) (main_v47 : IVec S_ 1) (main_v49 : FVec F S32768 .f32) (main_v51 : FVec F S32768 .f32) (main_v52 : FVec F S32768 .f32) : IVec S_ 1 :=
  let main_v53 : FVec F S32768 .f32 := mulf main_v51 main_v52
  let main_v54 : IVec S32768 1 := cmpf .oeq main_v49 main_v53
  let main_c_17 : IVec S_ 1 := constantI S_ 1 1#1
  let main_v55 : IVec S_ 1 := (fun x v => Host.reduce IntOp.andi x v reducesTo_S32768_S_d0 h_S_) main_v54 main_c_17
  let main_v56 : IVec S_ 1 := andi main_v47 main_v55
  let main_v57 : FVec F S32768x1 .f32 := (extractStridedSlice S32768x1 ![0, 1] · slices_S32768x2_S32768x1_0_1) main_arg4
  let main_v58 : FVec F S32768 .f32 := shapeCast S32768 main_v57 shapeCasts_S32768x1_S32768
  let main_v59 : IVec S32768 32 := addi main_v11 main_v5
  let main_v60 : FVec F S32768 .f32 := sitofp .f32 main_v59
  let main_cst_18 : FVec F S_ .f32 := constant S_ .f32 0x3C000000#32
  let main_v61 : FVec F S32768 .f32 := broadcastInDim S32768 ![] bcast_S_S32768 main_cst_18
  let main_v62 : FVec F S32768 .f32 := mulf main_v60 main_v61
  let main_v63 : IVec S32768 1 := cmpf .oeq main_v58 main_v62
  let main_c_19 : IVec S_ 1 := constantI S_ 1 1#1
  let main_v64 : IVec S_ 1 := (fun x v => Host.reduce IntOp.andi x v reducesTo_S32768_S_d0 h_S_) main_v63 main_c_19
  let main_v65 : IVec S_ 1 := andi main_v56 main_v64
  let main_v66 : IVec S32768x1 32 := (extractStridedSlice S32768x1 ![0, 0] · slices_S32768x3_S32768x1_0_0) main_arg5
  let main_v67 : IVec S32768 32 := shapeCast S32768 main_v66 shapeCasts_S32768x1_S32768
  let main_c_20 : IVec S_ 32 := constantI S_ 32 1#32
  let main_v68 : IVec S32768 32 := broadcastInDim S32768 ![] bcast_S_S32768 main_c_20
  let main_v69 : IVec S32768 1 := cmpi .eq main_v5 main_v68
  let main_c_21 : IVec S_ 32 := constantI S_ 32 130#32
  let main_v70 : IVec S32768 32 := broadcastInDim S32768 ![] bcast_S_S32768 main_c_21
  let main_v71 : IVec S32768 32 := addi main_v14 main_v70
  fn_part4 (F := F) main_arg5 main_v5 main_v14 main_v65 main_v67 main_v69 main_v71

def fn_part2 {F : FTy → Type} [FloatOps F] (main_arg3 : FVec F S32768x2x2 .f32) (main_arg4 : FVec F S32768x2 .f32) (main_arg5 : IVec S32768x3 32) (main_v5 : IVec S32768 32) (main_v9 : IVec S32768 32) (main_v11 : IVec S32768 32) (main_v14 : IVec S32768 32) (main_v17 : FVec F S32768 .f32) (main_v29 : IVec S_ 1) (main_v33 : IVec S32768 1) : IVec S_ 1 :=
  let main_c_12 : IVec S_ 1 := constantI S_ 1 1#1
  let main_v34 : IVec S_ 1 := (fun x v => Host.reduce IntOp.andi x v reducesTo_S32768_S_d0 h_S_) main_v33 main_c_12
  let main_v35 : IVec S_ 1 := andi main_v29 main_v34
  let main_v36 : FVec F S32768x1x1 .f32 := (extractStridedSlice S32768x1x1 ![0, 1, 0] · slices_S32768x2x2_S32768x1x1_0_1_0) main_arg3
  let main_v37 : FVec F S32768 .f32 := shapeCast S32768 main_v36 shapeCasts_S32768x1x1_S32768
  let main_cst_13 : FVec F S_ .f32 := constant S_ .f32 0x00000000#32
  let main_v38 : FVec F S32768 .f32 := broadcastInDim S32768 ![] bcast_S_S32768 main_cst_13
  let main_v39 : IVec S32768 1 := cmpf .oeq main_v37 main_v38
  let main_c_14 : IVec S_ 1 := constantI S_ 1 1#1
  let main_v40 : IVec S_ 1 := (fun x v => Host.reduce IntOp.andi x v reducesTo_S32768_S_d0 h_S_) main_v39 main_c_14
  let main_v41 : IVec S_ 1 := andi main_v35 main_v40
  let main_v42 : FVec F S32768x1x1 .f32 := (extractStridedSlice S32768x1x1 ![0, 1, 1] · slices_S32768x2x2_S32768x1x1_0_1_1) main_arg3
  let main_v43 : FVec F S32768 .f32 := shapeCast S32768 main_v42 shapeCasts_S32768x1x1_S32768
  let main_v44 : FVec F S32768 .f32 := id main_v17
  let main_v45 : IVec S32768 1 := cmpf .oeq main_v43 main_v44
  let main_c_15 : IVec S_ 1 := constantI S_ 1 1#1
  let main_v46 : IVec S_ 1 := (fun x v => Host.reduce IntOp.andi x v reducesTo_S32768_S_d0 h_S_) main_v45 main_c_15
  let main_v47 : IVec S_ 1 := andi main_v41 main_v46
  let main_v48 : FVec F S32768x1 .f32 := (extractStridedSlice S32768x1 ![0, 0] · slices_S32768x2_S32768x1_0_0) main_arg4
  let main_v49 : FVec F S32768 .f32 := shapeCast S32768 main_v48 shapeCasts_S32768x1_S32768
  let main_v50 : IVec S32768 32 := addi main_v9 main_v5
  let main_v51 : FVec F S32768 .f32 := sitofp .f32 main_v50
  let main_cst_16 : FVec F S_ .f32 := constant S_ .f32 0x3C000000#32
  let main_v52 : FVec F S32768 .f32 := broadcastInDim S32768 ![] bcast_S_S32768 main_cst_16
  fn_part3 (F := F) main_arg4 main_arg5 main_v5 main_v11 main_v14 main_v47 main_v49 main_v51 main_v52

def fn_part1 {F : FTy → Type} [FloatOps F] (main_arg3 : FVec F S32768x2x2 .f32) (main_arg4 : FVec F S32768x2 .f32) (main_arg5 : IVec S32768x3 32) (main_v2 : IVec S16x8192x2 32) (main_v5 : IVec S32768 32) (main_v9 : IVec S32768 32) (main_v11 : IVec S32768 32) (main_v14 : IVec S32768 32) (main_v16 : IVec S32768 1) : IVec S_ 1 :=
  let main_cst_5 : FVec F S_ .f32 := constant S_ .f32 0xC3000000#32
  let main_cst_6 : FVec F S_ .f32 := constant S_ .f32 0x43000000#32
  let main_v17 : FVec F S32768 .f32 := fn_where (F := F) main_v16 main_cst_5 main_cst_6
  let main_c_7 : IVec S_ 32 := constantI S_ 32 0#32
  let main_v18 : IVec S16x8192x2 32 := broadcastInDim S16x8192x2 ![] bcast_S_S16x8192x2 main_c_7
  let main_v19 : IVec S16x8192x2 1 := cmpi .sge main_v2 main_v18
  let main_c_8 : IVec S_ 32 := constantI S_ 32 128#32
  let main_v20 : IVec S16x8192x2 32 := broadcastInDim S16x8192x2 ![] bcast_S_S16x8192x2 main_c_8
  let main_v21 : IVec S16x8192x2 1 := cmpi .slt main_v2 main_v20
  let main_v22 : IVec S16x8192x2 1 := andi main_v19 main_v21
  let main_c_9 : IVec S_ 1 := constantI S_ 1 1#1
  let main_v23 : IVec S_ 1 := (fun x v => Host.reduce IntOp.andi x v reducesTo_S16x8192x2_S_d0_1_2 h_S_) main_v22 main_c_9
  let main_v24 : FVec F S32768x1x1 .f32 := (extractStridedSlice S32768x1x1 ![0, 0, 0] · slices_S32768x2x2_S32768x1x1_0_0_0) main_arg3
  let main_v25 : FVec F S32768 .f32 := shapeCast S32768 main_v24 shapeCasts_S32768x1x1_S32768
  let main_v26 : FVec F S32768 .f32 := id main_v17
  let main_v27 : IVec S32768 1 := cmpf .oeq main_v25 main_v26
  let main_c_10 : IVec S_ 1 := constantI S_ 1 1#1
  let main_v28 : IVec S_ 1 := (fun x v => Host.reduce IntOp.andi x v reducesTo_S32768_S_d0 h_S_) main_v27 main_c_10
  let main_v29 : IVec S_ 1 := andi main_v23 main_v28
  let main_v30 : FVec F S32768x1x1 .f32 := (extractStridedSlice S32768x1x1 ![0, 0, 1] · slices_S32768x2x2_S32768x1x1_0_0_1) main_arg3
  let main_v31 : FVec F S32768 .f32 := shapeCast S32768 main_v30 shapeCasts_S32768x1x1_S32768
  let main_cst_11 : FVec F S_ .f32 := constant S_ .f32 0x00000000#32
  let main_v32 : FVec F S32768 .f32 := broadcastInDim S32768 ![] bcast_S_S32768 main_cst_11
  let main_v33 : IVec S32768 1 := cmpf .oeq main_v31 main_v32
  fn_part2 (F := F) main_arg3 main_arg4 main_arg5 main_v5 main_v9 main_v11 main_v14 main_v17 main_v29 main_v33

def fn {F : FTy → Type} [FloatOps F] (main_arg0 : FVec F S16x8192x2 .f32) (main_arg1 : FVec F S16641 .f32) (main_arg2 : FVec F S16641 .f32) (main_arg3 : FVec F S32768x2x2 .f32) (main_arg4 : FVec F S32768x2 .f32) (main_arg5 : IVec S32768x3 32) : IVec S_ 1 :=
  let main_cst : FVec F S_ .f32 := constant S_ .f32 0x43000000#32
  let main_v0 : FVec F S16x8192x2 .f32 := broadcastInDim S16x8192x2 ![] bcast_S_S16x8192x2 main_cst
  let main_v1 : FVec F S16x8192x2 .f32 := mulf main_arg0 main_v0
  let main_v2 : IVec S16x8192x2 32 := fptosi 32 main_v1
  let main_v3 : IVec S32768 32 := iotaInDim S32768 32 0
  let main_c : IVec S_ 32 := constantI S_ 32 1#32
  let main_v4 : IVec S32768 32 := broadcastInDim S32768 ![] bcast_S_S32768 main_c
  let main_v5 : IVec S32768 32 := andi main_v3 main_v4
  let main_c_0 : IVec S_ 32 := constantI S_ 32 1#32
  let main_v6 : IVec S32768 32 := broadcastInDim S32768 ![] bcast_S_S32768 main_c_0
  let main_v7 : IVec S32768 32 := Host.shrsi main_v3 main_v6
  let main_c_1 : IVec S_ 32 := constantI S_ 32 127#32
  let main_v8 : IVec S32768 32 := broadcastInDim S32768 ![] bcast_S_S32768 main_c_1
  let main_v9 : IVec S32768 32 := andi main_v7 main_v8
  let main_c_2 : IVec S_ 32 := constantI S_ 32 8#32
  let main_v10 : IVec S32768 32 := broadcastInDim S32768 ![] bcast_S_S32768 main_c_2
  let main_v11 : IVec S32768 32 := Host.shrsi main_v3 main_v10
  let main_c_3 : IVec S_ 32 := constantI S_ 32 129#32
  let main_v12 : IVec S32768 32 := broadcastInDim S32768 ![] bcast_S_S32768 main_c_3
  let main_v13 : IVec S32768 32 := muli main_v11 main_v12
  let main_v14 : IVec S32768 32 := addi main_v13 main_v9
  let main_c_4 : IVec S_ 32 := constantI S_ 32 1#32
  let main_v15 : IVec S32768 32 := broadcastInDim S32768 ![] bcast_S_S32768 main_c_4
  let main_v16 : IVec S32768 1 := cmpi .eq main_v5 main_v15
  fn_part1 (F := F) main_arg3 main_arg4 main_arg5 main_v2 main_v5 main_v9 main_v11 main_v14 main_v16
-- ==== Kernel.lean ====
abbrev S16x8192x2 : Shape := ⟨3, ![16, 8192, 2]⟩
abbrev S16641 : Shape := ⟨1, ![16641]⟩
abbrev S32768x2x2 : Shape := ⟨3, ![32768, 2, 2]⟩
abbrev S32768x2 : Shape := ⟨2, ![32768, 2]⟩
abbrev S32768x3 : Shape := ⟨2, ![32768, 3]⟩
abbrev S16x64x128x2 : Shape := ⟨4, ![16, 64, 128, 2]⟩
abbrev S16x64x2x128 : Shape := ⟨4, ![16, 64, 2, 128]⟩
abbrev S262144 : Shape := ⟨1, ![262144]⟩
abbrev S8192 : Shape := ⟨1, ![8192]⟩
abbrev S_ : Shape := ⟨0, ![]⟩
abbrev S16 : Shape := ⟨1, ![16]⟩

abbrev nBuf : Table → Nat
  | .hbm => 13
  | .local .scVector .vmem => 4
  | _ => 0

abbrev bufTy : (tb : Table) → Fin (nBuf tb) → BufTy
  | .hbm, ⟨0, _⟩ => ⟨S16x8192x2, .f32⟩
  | .hbm, ⟨1, _⟩ => ⟨S16641, .f32⟩
  | .hbm, ⟨2, _⟩ => ⟨S16641, .f32⟩
  | .hbm, ⟨3, _⟩ => ⟨S32768x2x2, .f32⟩
  | .hbm, ⟨4, _⟩ => ⟨S32768x2, .f32⟩
  | .hbm, ⟨5, _⟩ => ⟨S32768x3, .i32⟩
  | .hbm, ⟨6, _⟩ => ⟨S16x64x128x2, .f32⟩
  | .hbm, ⟨7, _⟩ => ⟨S16x64x2x128, .f32⟩
  | .hbm, ⟨8, _⟩ => ⟨S262144, .f32⟩
  | .hbm, ⟨9, _⟩ => ⟨S262144, .f32⟩
  | .hbm, ⟨10, _⟩ => ⟨S16x64x2x128, .f32⟩
  | .hbm, ⟨11, _⟩ => ⟨S16x64x128x2, .f32⟩
  | .hbm, ⟨12, _⟩ => ⟨S16x8192x2, .f32⟩
  | .local .scVector .vmem, ⟨0, _⟩ => ⟨S8192, .f32⟩
  | .local .scVector .vmem, ⟨1, _⟩ => ⟨S16641, .f32⟩
  | .local .scVector .vmem, ⟨2, _⟩ => ⟨S16641, .f32⟩
  | .local .scVector .vmem, ⟨3, _⟩ => ⟨S8192, .f32⟩
  | _, _ => ⟨S16x8192x2, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v2_scv : Ref sig .scVector := ⟨.hbm, 8, rfl⟩
abbrev main_arg1_scv : Ref sig .scVector := ⟨.hbm, 1, rfl⟩
abbrev main_arg2_scv : Ref sig .scVector := ⟨.hbm, 2, rfl⟩
abbrev main_v3_scv : Ref sig .scVector := ⟨.hbm, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  ![v2.toNat]
@[reducible] def k0_t1_loop : Scf.Loop 32 :=
  let c0_i32 : BitVec 32 := 0#32
  let c256_i32 : BitVec 32 := 256#32
  let v7 : BitVec 32 := Scalar.addi c0_i32 c256_i32
  let c1_i32 : BitVec 32 := 1#32
  ⟨c0_i32, v7, c1_i32⟩
def k0_off2 (k0_t1 : Fin k0_t1_loop.trips) : Fin 1 → Nat :=
  let c0_i32_2 : BitVec 32 := 0#32
  let c0_i32 : BitVec 32 := 0#32
  let c1_i32 : BitVec 32 := 1#32
  let arg12 : BitVec 32 := Scf.iv c0_i32 c1_i32 k0_t1
  let c1_i32_1 : BitVec 32 := 1#32
  let v8 : BitVec 32 := Scalar.muli arg12 c1_i32_1
  let v9 : BitVec 32 := Scalar.addi c0_i32_2 v8
  let c16_i32 : BitVec 32 := 16#32
  let v10 : BitVec 32 := Scalar.muli v9 c16_i32
  let c0_i32_3 : BitVec 32 := 0#32
  let v12 : BitVec 1 := Scalar.cmpi .sgt v9 c0_i32_3
  let v13 : BitVec 32 := Scalar.extui v12
  let c0_i32_4 : BitVec 32 := 0#32
  let v14 : BitVec 1 := Scalar.cmpi .slt v9 c0_i32_4
  let v15 : BitVec 32 := Scalar.extui v14
  let v16 : BitVec 32 := Scalar.subi v13 v15
  let c8_i32 : BitVec 32 := 8#32
  let c0_i32_5 : BitVec 32 := 0#32
  let v17 : BitVec 1 := Scalar.cmpi .sgt c8_i32 c0_i32_5
  let v18 : BitVec 32 := Scalar.extui v17
  let c0_i32_6 : BitVec 32 := 0#32
  let v19 : BitVec 1 := Scalar.cmpi .slt c8_i32 c0_i32_6
  let v20 : BitVec 32 := Scalar.extui v19
  let v21 : BitVec 32 := Scalar.subi v18 v20
  let v22 : BitVec 1 := Scalar.cmpi .ne v16 v21
  let v23 : BitVec 32 := Scalar.remsi v9 c8_i32
  let c0_i32_7 : BitVec 32 := 0#32
  let v24 : BitVec 1 := Scalar.cmpi .ne v23 c0_i32_7
  let v25 : BitVec 1 := Scalar.andi v22 v24
  let v11 : BitVec 32 := Scalar.divsi v9 c8_i32
  let c1_i32_8 : BitVec 32 := 1#32
  let v26 : BitVec 32 := Scalar.subi v11 c1_i32_8
  let v27 : BitVec 32 := Scalar.select v25 v26 v11
  let c128_i32 : BitVec 32 := 128#32
  let v28 : BitVec 32 := Scalar.muli v27 c128_i32
  let v29 : BitVec 32 := Scalar.addi v10 v28
  let v30 : Index := Scalar.indexCast v29
  ![v30.toNat]
def k0_off3 (k0_t1 : Fin k0_t1_loop.trips) : Fin 1 → Nat :=
  let c0_i32_2 : BitVec 32 := 0#32
  let c0_i32 : BitVec 32 := 0#32
  let c1_i32 : BitVec 32 := 1#32
  let arg12 : BitVec 32 := Scf.iv c0_i32 c1_i32 k0_t1
  let c1_i32_1 : BitVec 32 := 1#32
  let v8 : BitVec 32 := Scalar.muli arg12 c1_i32_1
  let v9 : BitVec 32 := Scalar.addi c0_i32_2 v8
  let c16_i32 : BitVec 32 := 16#32
  let v10 : BitVec 32 := Scalar.muli v9 c16_i32
  let c0_i32_3 : BitVec 32 := 0#32
  let v12 : BitVec 1 := Scalar.cmpi .sgt v9 c0_i32_3
  let v13 : BitVec 32 := Scalar.extui v12
  let c0_i32_4 : BitVec 32 := 0#32
  let v14 : BitVec 1 := Scalar.cmpi .slt v9 c0_i32_4
  let v15 : BitVec 32 := Scalar.extui v14
  let v16 : BitVec 32 := Scalar.subi v13 v15
  let c8_i32 : BitVec 32 := 8#32
  let c0_i32_5 : BitVec 32 := 0#32
  let v17 : BitVec 1 := Scalar.cmpi .sgt c8_i32 c0_i32_5
  let v18 : BitVec 32 := Scalar.extui v17
  let c0_i32_6 : BitVec 32 := 0#32
  let v19 : BitVec 1 := Scalar.cmpi .slt c8_i32 c0_i32_6
  let v20 : BitVec 32 := Scalar.extui v19
  let v21 : BitVec 32 := Scalar.subi v18 v20
  let v22 : BitVec 1 := Scalar.cmpi .ne v16 v21
  let v23 : BitVec 32 := Scalar.remsi v9 c8_i32
  let c0_i32_7 : BitVec 32 := 0#32
  let v24 : BitVec 1 := Scalar.cmpi .ne v23 c0_i32_7
  let v25 : BitVec 1 := Scalar.andi v22 v24
  let v11 : BitVec 32 := Scalar.divsi v9 c8_i32
  let c1_i32_8 : BitVec 32 := 1#32
  let v26 : BitVec 32 := Scalar.subi v11 c1_i32_8
  let v27 : BitVec 32 := Scalar.select v25 v26 v11
  let c128_i32 : BitVec 32 := 128#32
  let v28 : BitVec 32 := Scalar.muli v27 c128_i32
  let v29 : BitVec 32 := Scalar.addi v10 v28
  let c128_i32_9 : BitVec 32 := 128#32
  let v32 : BitVec 32 := Scalar.addi v29 c128_i32_9
  let v33 : Index := Scalar.indexCast v32
  ![v33.toNat]

def k0_chk1 (v64 : IVec S16 32) : Prop :=
  (∀ a x, ((![v64] : Fin 1 → IVec S16 32) a x).toNat < S16641.size a) ∧
  (∀ a x, ((![v64] : Fin 1 → IVec S16 32) a x).toNat < S16641.size a)
theorem k0_idx1_inb : ∀ (v64 : IVec S16 32) (k0_hw1 : k0_chk1 v64), ∀ a x, ((![v64] : Fin 1 → IVec S16 32) a x).toNat < S16641.size a := fun v64 k0_hw1 => k0_hw1.1
theorem k0_idx4_inb : ∀ (v64 : IVec S16 32) (k0_hw1 : k0_chk1 v64), ∀ a x, ((![v64] : Fin 1 → IVec S16 32) a x).toNat < S16641.size a := fun v64 k0_hw1 => k0_hw1.2

def k0_chk2 (v69 : IVec S16 32) : Prop :=
  (∀ a x, ((![v69] : Fin 1 → IVec S16 32) a x).toNat < S16641.size a) ∧
  (∀ a x, ((![v69] : Fin 1 → IVec S16 32) a x).toNat < S16641.size a)
theorem k0_idx2_inb : ∀ (v69 : IVec S16 32) (k0_hw2 : k0_chk2 v69), ∀ a x, ((![v69] : Fin 1 → IVec S16 32) a x).toNat < S16641.size a := fun v69 k0_hw2 => k0_hw2.1
theorem k0_idx5_inb : ∀ (v69 : IVec S16 32) (k0_hw2 : k0_chk2 v69), ∀ a x, ((![v69] : Fin 1 → IVec S16 32) a x).toNat < S16641.size a := fun v69 k0_hw2 => k0_hw2.2

def k0_chk3 (v74 : IVec S16 32) : Prop :=
  (∀ a x, ((![v74] : Fin 1 → IVec S16 32) a x).toNat < S16641.size a) ∧
  (∀ a x, ((![v74] : Fin 1 → IVec S16 32) a x).toNat < S16641.size a)
theorem k0_idx3_inb : ∀ (v74 : IVec S16 32) (k0_hw3 : k0_chk3 v74), ∀ a x, ((![v74] : Fin 1 → IVec S16 32) a x).toNat < S16641.size a := fun v74 k0_hw3 => k0_hw3.1
theorem k0_idx6_inb : ∀ (v74 : IVec S16 32) (k0_hw3 : k0_chk3 v74), ∀ a x, ((![v74] : Fin 1 → IVec S16 32) a x).toNat < S16641.size a := fun v74 k0_hw3 => k0_hw3.2
def k0_off4 (k0_t1 : Fin k0_t1_loop.trips) : Fin 1 → Nat :=
  let c0_i32_2 : BitVec 32 := 0#32
  let c0_i32 : BitVec 32 := 0#32
  let c1_i32 : BitVec 32 := 1#32
  let arg12 : BitVec 32 := Scf.iv c0_i32 c1_i32 k0_t1
  let c1_i32_1 : BitVec 32 := 1#32
  let v8 : BitVec 32 := Scalar.muli arg12 c1_i32_1
  let v9 : BitVec 32 := Scalar.addi c0_i32_2 v8
  let c16_i32 : BitVec 32 := 16#32
  let v10 : BitVec 32 := Scalar.muli v9 c16_i32
  let c0_i32_3 : BitVec 32 := 0#32
  let v12 : BitVec 1 := Scalar.cmpi .sgt v9 c0_i32_3
  let v13 : BitVec 32 := Scalar.extui v12
  let c0_i32_4 : BitVec 32 := 0#32
  let v14 : BitVec 1 := Scalar.cmpi .slt v9 c0_i32_4
  let v15 : BitVec 32 := Scalar.extui v14
  let v16 : BitVec 32 := Scalar.subi v13 v15
  let c8_i32 : BitVec 32 := 8#32
  let c0_i32_5 : BitVec 32 := 0#32
  let v17 : BitVec 1 := Scalar.cmpi .sgt c8_i32 c0_i32_5
  let v18 : BitVec 32 := Scalar.extui v17
  let c0_i32_6 : BitVec 32 := 0#32
  let v19 : BitVec 1 := Scalar.cmpi .slt c8_i32 c0_i32_6
  let v20 : BitVec 32 := Scalar.extui v19
  let v21 : BitVec 32 := Scalar.subi v18 v20
  let v22 : BitVec 1 := Scalar.cmpi .ne v16 v21
  let v23 : BitVec 32 := Scalar.remsi v9 c8_i32
  let c0_i32_7 : BitVec 32 := 0#32
  let v24 : BitVec 1 := Scalar.cmpi .ne v23 c0_i32_7
  let v25 : BitVec 1 := Scalar.andi v22 v24
  let v11 : BitVec 32 := Scalar.divsi v9 c8_i32
  let c1_i32_8 : BitVec 32 := 1#32
  let v26 : BitVec 32 := Scalar.subi v11 c1_i32_8
  let v27 : BitVec 32 := Scalar.select v25 v26 v11
  let c128_i32 : BitVec 32 := 128#32
  let v28 : BitVec 32 := Scalar.muli v27 c128_i32
  let v29 : BitVec 32 := Scalar.addi v10 v28
  let v91 : Index := Scalar.indexCast v29
  ![v91.toNat]
def k0_off5 (k0_t1 : Fin k0_t1_loop.trips) : Fin 1 → Nat :=
  let c0_i32_2 : BitVec 32 := 0#32
  let c0_i32 : BitVec 32 := 0#32
  let c1_i32 : BitVec 32 := 1#32
  let arg12 : BitVec 32 := Scf.iv c0_i32 c1_i32 k0_t1
  let c1_i32_1 : BitVec 32 := 1#32
  let v8 : BitVec 32 := Scalar.muli arg12 c1_i32_1
  let v9 : BitVec 32 := Scalar.addi c0_i32_2 v8
  let c16_i32 : BitVec 32 := 16#32
  let v10 : BitVec 32 := Scalar.muli v9 c16_i32
  let c0_i32_3 : BitVec 32 := 0#32
  let v12 : BitVec 1 := Scalar.cmpi .sgt v9 c0_i32_3
  let v13 : BitVec 32 := Scalar.extui v12
  let c0_i32_4 : BitVec 32 := 0#32
  let v14 : BitVec 1 := Scalar.cmpi .slt v9 c0_i32_4
  let v15 : BitVec 32 := Scalar.extui v14
  let v16 : BitVec 32 := Scalar.subi v13 v15
  let c8_i32 : BitVec 32 := 8#32
  let c0_i32_5 : BitVec 32 := 0#32
  let v17 : BitVec 1 := Scalar.cmpi .sgt c8_i32 c0_i32_5
  let v18 : BitVec 32 := Scalar.extui v17
  let c0_i32_6 : BitVec 32 := 0#32
  let v19 : BitVec 1 := Scalar.cmpi .slt c8_i32 c0_i32_6
  let v20 : BitVec 32 := Scalar.extui v19
  let v21 : BitVec 32 := Scalar.subi v18 v20
  let v22 : BitVec 1 := Scalar.cmpi .ne v16 v21
  let v23 : BitVec 32 := Scalar.remsi v9 c8_i32
  let c0_i32_7 : BitVec 32 := 0#32
  let v24 : BitVec 1 := Scalar.cmpi .ne v23 c0_i32_7
  let v25 : BitVec 1 := Scalar.andi v22 v24
  let v11 : BitVec 32 := Scalar.divsi v9 c8_i32
  let c1_i32_8 : BitVec 32 := 1#32
  let v26 : BitVec 32 := Scalar.subi v11 c1_i32_8
  let v27 : BitVec 32 := Scalar.select v25 v26 v11
  let c128_i32 : BitVec 32 := 128#32
  let v28 : BitVec 32 := Scalar.muli v27 c128_i32
  let v29 : BitVec 32 := Scalar.addi v10 v28
  let c128_i32_19 : BitVec 32 := 128#32
  let v93 : BitVec 32 := Scalar.addi v29 c128_i32_19
  let v94 : Index := Scalar.indexCast v93
  ![v94.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x8192x2 : Shape := ⟨3, ![16, 8192, 2]⟩
abbrev S16641 : Shape := ⟨1, ![16641]⟩
abbrev S32768x2x2 : Shape := ⟨3, ![32768, 2, 2]⟩
abbrev S32768x2 : Shape := ⟨2, ![32768, 2]⟩
abbrev S32768x3 : Shape := ⟨2, ![32768, 3]⟩
abbrev S16x8192x1 : Shape := ⟨3, ![16, 8192, 1]⟩
abbrev S16x8192 : Shape := ⟨2, ![16, 8192]⟩
abbrev S_ : Shape := ⟨0, ![]⟩
abbrev S16x8192x2x2 : Shape := ⟨4, ![16, 8192, 2, 2]⟩
abbrev S16x8192x3 : Shape := ⟨3, ![16, 8192, 3]⟩
abbrev S16x8192x3x1 : Shape := ⟨4, ![16, 8192, 3, 1]⟩

abbrev nBuf : Space → Nat
  | .hbm => 133
  | .vmem => 0
  | .smem => 0
  | _ => 0

abbrev hbmTy0_0 (i : Nat) : BufTy := match i % 128 with
  | 0 => ⟨S16x8192x2, .f32⟩
  | 1 => ⟨S16641, .f32⟩
  | 2 => ⟨S16641, .f32⟩
  | 3 => ⟨S32768x2x2, .f32⟩
  | 4 => ⟨S32768x2, .f32⟩
  | 5 => ⟨S32768x3, .i32⟩
  | 6 => ⟨S16x8192x1, .f32⟩
  | 7 => ⟨S16x8192, .f32⟩
  | 8 => ⟨S_, .f32⟩
  | 9 => ⟨S16x8192, .f32⟩
  | 10 => ⟨S16x8192, .f32⟩
  | 11 => ⟨S16x8192x1, .f32⟩
  | 12 => ⟨S16x8192, .f32⟩
  | 13 => ⟨S_, .f32⟩
  | 14 => ⟨S16x8192, .f32⟩
  | 15 => ⟨S16x8192, .f32⟩
  | 16 => ⟨S16x8192, .f32⟩
  | 17 => ⟨S16x8192, .i32⟩
  | 18 => ⟨S_, .i32⟩
  | 19 => ⟨S_, .i32⟩
  | 20 => ⟨S_, .i32⟩
  | 21 => ⟨S16x8192, .i32⟩
  | 22 => ⟨S16x8192, .i32⟩
  | 23 => ⟨S_, .i32⟩
  | 24 => ⟨S16x8192, .i32⟩
  | 25 => ⟨S16x8192, .i32⟩
  | 26 => ⟨S16x8192, .f32⟩
  | 27 => ⟨S16x8192, .i32⟩
  | 28 => ⟨S_, .i32⟩
  | 29 => ⟨S_, .i32⟩
  | 30 => ⟨S_, .i32⟩
  | 31 => ⟨S16x8192, .i32⟩
  | 32 => ⟨S16x8192, .i32⟩
  | 33 => ⟨S_, .i32⟩
  | 34 => ⟨S16x8192, .i32⟩
  | 35 => ⟨S16x8192, .i32⟩
  | 36 => ⟨S16x8192, .f32⟩
  | 37 => ⟨S16x8192, .f32⟩
  | 38 => ⟨S16x8192, .f32⟩
  | 39 => ⟨S16x8192, .f32⟩
  | 40 => ⟨S16x8192, .f32⟩
  | 41 => ⟨S_, .f32⟩
  | 42 => ⟨S16x8192, .f32⟩
  | 43 => ⟨S16x8192, .i1⟩
  | 44 => ⟨S16x8192, .i32⟩
  | 45 => ⟨S_, .i32⟩
  | 46 => ⟨S16x8192, .i32⟩
  | 47 => ⟨S16x8192, .i32⟩
  | 48 => ⟨S16x8192, .i32⟩
  | 49 => ⟨S_, .i32⟩
  | 50 => ⟨S16x8192, .i32⟩
  | 51 => ⟨S16x8192, .i32⟩
  | 52 => ⟨S16x8192, .i32⟩
  | 53 => ⟨S_, .i32⟩
  | 54 => ⟨S16x8192, .i32⟩
  | 55 => ⟨S16x8192, .i1⟩
  | 56 => ⟨S_, .i32⟩
  | 57 => ⟨S16x8192, .i32⟩
  | 58 => ⟨S16x8192, .i32⟩
  | 59 => ⟨S16x8192, .i32⟩
  | 60 => ⟨S16x8192x1, .i32⟩
  | 61 => ⟨S16x8192x2x2, .f32⟩
  | 62 => ⟨S_, .i32⟩
  | 63 => ⟨S16x8192, .i32⟩
  | 64 => ⟨S16x8192, .i1⟩
  | 65 => ⟨S_, .i32⟩
  | 66 => ⟨S16x8192, .i32⟩
  | 67 => ⟨S16x8192, .i32⟩
  | 68 => ⟨S16x8192, .i32⟩
  | 69 => ⟨S16x8192x1, .i32⟩
  | 70 => ⟨S16x8192x2, .f32⟩
  | 71 => ⟨S_, .i32⟩
  | 72 => ⟨S16x8192, .i32⟩
  | 73 => ⟨S16x8192, .i1⟩
  | 74 => ⟨S_, .i32⟩
  | 75 => ⟨S16x8192, .i32⟩
  | 76 => ⟨S16x8192, .i32⟩
  | 77 => ⟨S16x8192, .i32⟩
  | 78 => ⟨S16x8192x1, .i32⟩
  | 79 => ⟨S16x8192x3, .i32⟩
  | 80 => ⟨S16x8192x2, .f32⟩
  | 81 => ⟨S16x8192x2, .f32⟩
  | 82 => ⟨S16x8192x1, .f32⟩
  | 83 => ⟨S16x8192, .f32⟩
  | 84 => ⟨S16x8192x1, .f32⟩
  | 85 => ⟨S16x8192, .f32⟩
  | 86 => ⟨S_, .f32⟩
  | 87 => ⟨S16x8192, .f32⟩
  | 88 => ⟨S16x8192, .f32⟩
  | 89 => ⟨S16x8192, .f32⟩
  | 90 => ⟨S_, .i32⟩
  | 91 => ⟨S16x8192x3, .i32⟩
  | 92 => ⟨S16x8192x3, .i1⟩
  | 93 => ⟨S_, .i32⟩
  | 94 => ⟨S16x8192x3, .i32⟩
  | 95 => ⟨S16x8192x3, .i32⟩
  | 96 => ⟨S16x8192x3, .i32⟩
  | 97 => ⟨S16x8192x3x1, .i32⟩
  | 98 => ⟨S16x8192x3, .f32⟩
  | 99 => ⟨S_, .i32⟩
  | 100 => ⟨S16x8192x3, .i32⟩
  | 101 => ⟨S16x8192x3, .i1⟩
  | 102 => ⟨S_, .i32⟩
  | 103 => ⟨S16x8192x3, .i32⟩
  | 104 => ⟨S16x8192x3, .i32⟩
  | 105 => ⟨S16x8192x3, .i32⟩
  | 106 => ⟨S16x8192x3x1, .i32⟩
  | 107 => ⟨S16x8192x3, .f32⟩
  | 108 => ⟨S16x8192x1, .f32⟩
  | 109 => ⟨S16x8192, .f32⟩
  | 110 => ⟨S16x8192, .f32⟩
  | 111 => ⟨S16x8192x1, .f32⟩
  | 112 => ⟨S16x8192, .f32⟩
  | 113 => ⟨S16x8192, .f32⟩
  | 114 => ⟨S16x8192, .f32⟩
  | 115 => ⟨S16x8192x1, .f32⟩
  | 116 => ⟨S16x8192, .f32⟩
  | 117 => ⟨S16x8192, .f32⟩
  | 118 => ⟨S16x8192, .f32⟩
  | 119 => ⟨S16x8192x1, .f32⟩
  | 120 => ⟨S16x8192, .f32⟩
  | 121 => ⟨S16x8192, .f32⟩
  | 122 => ⟨S16x8192x1, .f32⟩
  | 123 => ⟨S16x8192, .f32⟩
  | 124 => ⟨S16x8192, .f32⟩
  | 125 => ⟨S16x8192, .f32⟩
  | 126 => ⟨S16x8192x1, .f32⟩
  | 127 => ⟨S16x8192, .f32⟩
  | _ => ⟨S16x8192x2, .f32⟩

abbrev hbmTy0_1 (i : Nat) : BufTy := match i % 128 with
  | 0 => ⟨S16x8192, .f32⟩
  | 1 => ⟨S16x8192, .f32⟩
  | 2 => ⟨S16x8192x1, .f32⟩
  | 3 => ⟨S16x8192x1, .f32⟩
  | 4 => ⟨S16x8192x2, .f32⟩
  | _ => ⟨S16x8192x2, .f32⟩

abbrev hbmTy (i : Nat) : BufTy := match i / 128 with
  | 0 => hbmTy0_0 i
  | 1 => hbmTy0_1 i
  | _ => ⟨S16x8192x2, .f32⟩

abbrev bufTy : (tb : Table) → Fin (tcTables nBuf tb) → BufTy
  | .hbm, ⟨i, _⟩ => hbmTy i
  | _, _ => ⟨S16x8192x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_c_1 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_c_3 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_5 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c_6 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c_7 : Ref sig .tc := ⟨.hbm, 53, rfl⟩
abbrev main_v28 : Ref sig .tc := ⟨.hbm, 54, rfl⟩
abbrev main_v29 : Ref sig .tc := ⟨.hbm, 55, rfl⟩
abbrev main_c_8 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_c_9 : Ref sig .tc := ⟨.hbm, 62, rfl⟩
abbrev main_v35 : Ref sig .tc := ⟨.hbm, 63, rfl⟩
abbrev main_v36 : Ref sig .tc := ⟨.hbm, 64, rfl⟩
abbrev main_c_10 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_c_11 : Ref sig .tc := ⟨.hbm, 71, rfl⟩
abbrev main_v42 : Ref sig .tc := ⟨.hbm, 72, rfl⟩
abbrev main_v43 : Ref sig .tc := ⟨.hbm, 73, rfl⟩
abbrev main_c_12 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_13 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_c_14 : Ref sig .tc := ⟨.hbm, 90, rfl⟩
abbrev main_v58 : Ref sig .tc := ⟨.hbm, 91, rfl⟩
abbrev main_v59 : Ref sig .tc := ⟨.hbm, 92, rfl⟩
abbrev main_c_15 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_c_16 : Ref sig .tc := ⟨.hbm, 99, rfl⟩
abbrev main_v65 : Ref sig .tc := ⟨.hbm, 100, rfl⟩
abbrev main_v66 : Ref sig .tc := ⟨.hbm, 101, rfl⟩
abbrev main_c_17 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩

abbrev nD : Nat := 1
abbrev τ : Topo := Topo.v7x

variable {F : FTy → Type} [FloatOps F]
-- ==== Proof.Offsets.lean ====
/-
  Where one trip of the tile's loop reads and writes, and where a tile's slice of the flat arrays begins, as plain numbers.

  The flat array interleaves blocks of 128 first coordinates with the 128 second coordinates of the same points, so the two
  coordinates of one point lie 128 apart: `lo n` and `hi n` are the places of the first and the second coordinate of the point
  that position `n` belongs to. Trip `t` of the loop handles the sixteen points whose first coordinates begin at `16 t + 128 (t / 8)`.
-/
module

public import proofs.«01_k».proof.Proof.Gen.KernelIdeal
public import proofs.«01_k».proof.Proof.Gen.KernelIdeal.Skeleton

@[expose] public section

noncomputable section

namespace Cert.Proof.Offsets

open Cert.KernelIdeal Cert.KernelIdeal.Gen
open Idealize.ShloMosaic

/-- The loop makes 256 trips. -/
theorem trips : k0_t1_loop.trips = 256 := by decide +kernel

theorem off2 : ∀ t : Fin k0_t1_loop.trips, k0_off2 t = ![16 * t.val + 128 * (t.val / 8)] := by decide +kernel
theorem off3 : ∀ t : Fin k0_t1_loop.trips, k0_off3 t = ![16 * t.val + 128 * (t.val / 8) + 128] := by decide +kernel
theorem off4 : ∀ t : Fin k0_t1_loop.trips, k0_off4 t = ![16 * t.val + 128 * (t.val / 8)] := by decide +kernel
theorem off5 : ∀ t : Fin k0_t1_loop.trips, k0_off5 t = ![16 * t.val + 128 * (t.val / 8) + 128] := by decide +kernel

/-- The place of the first coordinate of the point that position `n` belongs to. -/
def lo (n : Nat) : Nat := n / 256 * 256 + n % 128
/-- The place of its second coordinate. -/
def hi (n : Nat) : Nat := lo n + 128
/-- The trip that writes position `n` of a tile's slice. -/
def tripOf (n : Nat) : Nat := n / 256 * 8 + n % 128 / 16
/-- Whether position `n` holds a second coordinate (and so, in the result, a value of the second table). -/
def isHi (n : Nat) : Bool := n / 128 % 2 == 1

end Cert.Proof.Offsets

end
-- ==== Proof.Interp.lean ====
/-
  The value the kernel leaves for one point of one of the two tables, over any reading of the floats, and the whole flat result as a
  function of the flat coordinates and the two tables.

  The point `(a, b)` is scaled by 128; `cell` is its column (row) in the 128 by 128 grid and `frac` what is left. The point lies in the
  upper triangle of its square when the two fractions sum to more than one. `wgt0`, `wgt1`, `wgt2` are the weights of the triangle's
  corners, `dof0`, `dof1`, `dof2` the corners' numbers in the table, 129 to a row. `val` is the weighted sum.
-/
module

public import proofs.«01_k».proof.Proof.Offsets

@[expose] public section

noncomputable section

namespace Cert.Proof.Interp

open Cert.KernelIdeal Cert.KernelIdeal.Gen Cert.Proof.Offsets
open Idealize.ShloMosaic

variable {F : FTy → Type} [FloatOps F]

/-! ## One point -/

/-- The number one. -/
def one : F .f32 := Scalar.ofBits .f32 0x3F800000#32
/-- A coordinate in units of the grid's squares. -/
def scaled (a : F .f32) : F .f32 := FloatOps.mulf a (Scalar.ofBits .f32 0x43000000#32)
/-- The square it falls in. -/
def cell (a : F .f32) : BitVec 32 := FloatOps.fptosi 32 (scaled a)
/-- How far into the square. -/
def frac (a : F .f32) : F .f32 := FloatOps.subf (scaled a) (FloatOps.sitofp .f32 (cell a))
/-- How far from the square's other side. -/
def far (a : F .f32) : F .f32 := FloatOps.subf (FloatOps.addf (FloatOps.sitofp .f32 (cell a)) one) (scaled a)
/-- Whether the point lies in the upper triangle. -/
def upper (a b : F .f32) : BitVec 1 := FloatOps.cmpf .ogt (FloatOps.addf (frac a) (frac b)) one
/-- The weights of the corners. -/
def wgt1 (a b : F .f32) : F .f32 := Scalar.select (upper a b) (far a) (frac a)
def wgt2 (a b : F .f32) : F .f32 := Scalar.select (upper a b) (far b) (frac b)
def wgt0 (a b : F .f32) : F .f32 := FloatOps.subf (FloatOps.subf one (wgt1 a b)) (wgt2 a b)
/-- The number of the square's lower left corner, and of the triangle's three corners. -/
def base (a b : F .f32) : BitVec 32 := cell b * 129#32 + cell a
def dof0 (a b : F .f32) : BitVec 32 := Scalar.select (upper a b) (base a b + 130#32) (base a b)
def dof1 (a b : F .f32) : BitVec 32 := Scalar.select (upper a b) (base a b + 129#32) (base a b + 1#32)
def dof2 (a b : F .f32) : BitVec 32 := Scalar.select (upper a b) (base a b + 1#32) (base a b + 129#32)

/-- The table read at a number (taken modulo its length, so that it is defined everywhere). -/
def tab (w : S16641.Idx → F .f32) (v : BitVec 32) : F .f32 := w (fun a => ⟨v.toNat % S16641.size a, Nat.mod_lt _ (by
  obtain rfl : a = 0 := Subsingleton.elim _ _
  decide)⟩)

/-- The interpolated value. -/
def val (w : S16641.Idx → F .f32) (a b : F .f32) : F .f32 :=
  FloatOps.addf (FloatOps.addf (FloatOps.mulf (wgt0 a b) (tab w (dof0 a b))) (FloatOps.mulf (wgt1 a b) (tab w (dof1 a b))))
    (FloatOps.mulf (wgt2 a b) (tab w (dof2 a b)))

/-! ## The corners' numbers stay in the table -/

theorem select_cases {α : Type} (c : BitVec 1) (x y : α) : Scalar.select c x y = x ∨ Scalar.select c x y = y := by
  unfold Scalar.select; split <;> simp

section Range

variable {a b : F .f32} (ha : (cell a).toNat < 128) (hb : (cell b).toNat < 128)
include ha hb

theorem base_toNat : (base a b).toNat = (cell b).toNat * 129 + (cell a).toNat := by
  unfold base; rw [BitVec.toNat_add, BitVec.toNat_mul]
  simp only [BitVec.toNat_ofNat]; omega

theorem base_add_toNat (k : Nat) (hk : k ≤ 130) : (base a b + BitVec.ofNat 32 k).toNat = (cell b).toNat * 129 + (cell a).toNat + k := by
  rw [BitVec.toNat_add, base_toNat ha hb, BitVec.toNat_ofNat]; omega

theorem dof0_lt : (dof0 a b).toNat < 16641 := by
  have h0 := base_toNat ha hb
  have h1 := base_add_toNat ha hb 130 (by omega)
  unfold dof0; rcases select_cases (upper a b) (base a b + 130#32) (base a b) with e | e <;> rw [e] <;> omega
theorem dof1_lt : (dof1 a b).toNat < 16641 := by
  have h0 := base_add_toNat ha hb 1 (by omega)
  have h1 := base_add_toNat ha hb 129 (by omega)
  unfold dof1; rcases select_cases (upper a b) (base a b + 129#32) (base a b + 1#32) with e | e <;> rw [e] <;> omega
theorem dof2_lt : (dof2 a b).toNat < 16641 := by
  have h0 := base_add_toNat ha hb 1 (by omega)
  have h1 := base_add_toNat ha hb 129 (by omega)
  unfold dof2; rcases select_cases (upper a b) (base a b + 1#32) (base a b + 129#32) with e | e <;> rw [e] <;> omega

end Range

/-- Reading at a number in range. -/
theorem tab_of_lt (w : S16641.Idx → F .f32) (v : BitVec 32) (h : v.toNat < 16641) (x : S16641.Idx) (hx : (x 0).val = v.toNat) : tab w v = w x := by
  unfold tab; congr 1; funext a
  obtain rfl : a = 0 := Subsingleton.elim _ _
  apply Fin.ext; rw [hx]; exact Nat.mod_eq_of_lt h

/-! ## The flat result -/

/-- The index of position `n` (taken modulo the length). -/
def at1 (n : Nat) : S262144.Idx := fun a => ⟨n % S262144.size a, Nat.mod_lt _ (by obtain rfl : a = 0 := Subsingleton.elim _ _; decide)⟩

/-- The flat result at each position, from the flat coordinates and the two tables. -/
def flat (x : S262144.Idx → F .f32) (wx wy : S16641.Idx → F .f32) : S262144.Idx → F .f32 := fun n =>
  val (if isHi (n 0).val then wy else wx) (x (at1 (lo (n 0).val))) (x (at1 (hi (n 0).val)))

/-! ## One trip's payloads, lane by lane -/

section Payloads

variable (va vb : Vec F S16 .f32) (l : S16.Idx)

theorem pay15_apply : k0_pay15 (k0_pay3 va) (k0_pay4 vb) (k0_pay9 va vb) l = dof0 (va l) (vb l) := rfl
theorem pay16_apply : k0_pay16 (k0_pay3 va) (k0_pay4 vb) (k0_pay9 va vb) l = dof1 (va l) (vb l) := rfl
theorem pay17_apply : k0_pay17 (k0_pay3 va) (k0_pay4 vb) (k0_pay9 va vb) l = dof2 (va l) (vb l) := rfl

theorem pay18_apply (x y z : Vec F S16 .f32) :
    k0_pay18 (k0_pay2 vb) (k0_pay6 vb) (k0_pay7 va) (k0_pay8 vb) (k0_pay9 va vb) (k0_pay10 va) x y z l
      = FloatOps.addf (FloatOps.addf (FloatOps.mulf (wgt0 (va l) (vb l)) (x l)) (FloatOps.mulf (wgt1 (va l) (vb l)) (y l)))
          (FloatOps.mulf (wgt2 (va l) (vb l)) (z l)) := rfl
theorem pay19_apply (x y z : Vec F S16 .f32) :
    k0_pay19 (k0_pay2 vb) (k0_pay6 vb) (k0_pay7 va) (k0_pay8 vb) (k0_pay9 va vb) (k0_pay10 va) x y z l
      = FloatOps.addf (FloatOps.addf (FloatOps.mulf (wgt0 (va l) (vb l)) (x l)) (FloatOps.mulf (wgt1 (va l) (vb l)) (y l)))
          (FloatOps.mulf (wgt2 (va l) (vb l)) (z l)) := rfl

end Payloads

end Cert.Proof.Interp

end
-- ==== Proof.Setup.lean ====
/-
  The kernel as the launch theorem sees it: its configuration, its resource algebra, the arrays and the slices its thirty-two tiles own.

  Tile `i` of SparseCore `c` owns the 8192 elements of the flat arrays that begin at `16384 i + 8192 c`. It reads its slice of the
  coordinates and writes its slice of the result. Both tables are read by every tile, so a tile holds a read share of each.
-/
module

public import proofs.«01_k».proof.Defs
public import proofs.«01_k».proof.Proof.Interp
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Writes
public import Idealize.ShloMosaic.Lib.Batch
public import Idealize.ShloMosaic.Lib.Tactic

@[expose] public section

noncomputable section

namespace Cert.Proof.Tile

open Cert.KernelIdeal Cert.KernelIdeal.Gen Cert.Proof.Offsets Cert.Proof.Interp

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The flat coordinates, the two tables and the flat result, as locations of device `d`. -/
abbrev xLoc (d : Dev nD) : Loc nD τ sig := (SparseCore.T d).loc main_v2
abbrev uLoc (d : Dev nD) : Loc nD τ sig := (SparseCore.T d).loc main_arg1
abbrev wLoc (d : Dev nD) : Loc nD τ sig := (SparseCore.T d).loc main_arg2
abbrev oLoc (d : Dev nD) : Loc nD τ sig := (SparseCore.T d).loc main_v3

/-- The memrefs of the kernel: the arrays, then a tile's scratch buffers (coordinates, the two tables, the result). -/
abbrev xV : Memref sig .scVector .hbm S262144 .f32 := Memref.whole main_v2_scv
abbrev uV : Memref sig .scVector .hbm S16641 .f32 := Memref.whole main_arg1_scv
abbrev wV : Memref sig .scVector .hbm S16641 .f32 := Memref.whole main_arg2_scv
abbrev oV : Memref sig .scVector .hbm S262144 .f32 := Memref.whole main_v3_scv
abbrev sX : Memref sig .scVector .vmem S8192 .f32 := Memref.whole cc0_scratch0
abbrev sU : Memref sig .scVector .vmem S16641 .f32 := Memref.whole cc0_scratch1
abbrev sW : Memref sig .scVector .vmem S16641 .f32 := Memref.whole cc0_scratch2
abbrev sO : Memref sig .scVector .vmem S8192 .f32 := Memref.whole cc0_scratch3

/-! ## A tile's slice -/

abbrev cV (L : grid0.Coords) : Fin τ.nSC := (L 0).castLE hcore0
abbrev jV (L : grid0.Coords) : Fin τ.nSub := (L 1).castLE hsub0

/-- The tile's rectangle of the flat arrays, as the kernel names it. -/
abbrev rK (L : grid0.Coords) : Rect S262144 := Rect.unit (s := S262144) (k0_off1 L) S8192.size (k0_off1_inb L)
/-- Its slices of the coordinates and of the result. -/
abbrev xSl (L : grid0.Coords) : Memref sig .scVector .hbm S8192 .f32 := xV.slice (rK L) (fun _ => rfl)
abbrev oSl (L : grid0.Coords) : Memref sig .scVector .hbm S8192 .f32 := oV.slice (rK L) (fun _ => rfl)
/-- The elements of the tile's slice. -/
abbrev slice (L : grid0.Coords) : Finset S262144.Idx := (rK L).set

theorem set_xSl (L : grid0.Coords) : (xSl L).view.set = slice L := by
  show ((View.whole (main_v2_scv : Ref sig .scVector)).slice (rK L)).set = _
  rw [View.set_slice]; exact Finset.map_refl
theorem set_oSl (L : grid0.Coords) : (oSl L).view.set = slice L := by
  show ((View.whole (main_v3_scv : Ref sig .scVector)).slice (rK L)).set = _
  rw [View.set_slice]; exact Finset.map_refl

/-- Where the slice begins. -/
def start (L : grid0.Coords) : Nat := 16384 * (L 1).val + 8192 * (L 0).val

theorem start_le (L : grid0.Coords) : start L + 8192 ≤ 262144 := by
  have := k0_off1_inb L 0
  rw [k0_off1_eq] at this
  exact this

/-- Position `n` of the slice is position `start + n` of the flat array. -/
theorem rK_emb (L : grid0.Coords) (n : S8192.Idx) : (((rK L).emb n) 0).val = start L + (n 0).val := by
  show (k0_off1 L) 0 + 1 * (n 0).val = _
  rw [k0_off1_eq]; unfold start
  simp

end Cert.Proof.Tile

end
-- ==== Proof.Trip.lean ====
/-
  One trip of a tile's loop.

  Trip `t` loads sixteen first and sixteen second coordinates from the tile's scratch, reads each table at the three corners of each
  point's triangle, and stores the sixteen values of each table where the coordinates lay. So after the trip the scratch holds the
  result at every position whose trip is below `t + 1`.
-/
module

public import proofs.«01_k».proof.Proof.Setup

@[expose] public section

noncomputable section

namespace Cert.Proof.Tile

open Cert.KernelIdeal Cert.KernelIdeal.Gen Cert.Proof.Offsets Cert.Proof.Interp

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## What the scratch holds -/

/-- The index of position `n` of a tile's slice (taken modulo the length). -/
def at8 (n : Nat) : S8192.Idx := fun a => ⟨n % S8192.size a, Nat.mod_lt _ (by obtain rfl : a = 0 := Subsingleton.elim _ _; decide)⟩

theorem at8_val (n : Nat) (h : n < 8192) : (at8 n 0).val = n := Nat.mod_eq_of_lt h

theorem eq_at8 (x : S8192.Idx) (n : Nat) (h : (x 0).val = n) : x = at8 n := by
  funext a
  obtain rfl : a = 0 := Subsingleton.elim _ _
  apply Fin.ext
  rw [at8_val n (h ▸ (x 0).isLt)]; exact h

/-- The result over a tile's slice, from the slice's coordinates and the tables. -/
def part (x : S8192.Idx → F .f32) (wx wy : S16641.Idx → F .f32) : S8192.Idx → F .f32 := fun n =>
  val (if isHi (n 0).val then wy else wx) (x (at8 (lo (n 0).val))) (x (at8 (hi (n 0).val)))

/-- The scratch `f` holds the result at the positions of the trips below `k`. -/
def Done (x : S8192.Idx → F .f32) (wx wy : S16641.Idx → F .f32) (k : Nat) (f : S8192.Idx → F .f32) : Prop :=
  ∀ n : S8192.Idx, tripOf (n 0).val < k → f n = part x wx wy n

/-- The rectangles trip `t` loads from and stores to. -/
abbrev r2 (t : Fin k0_t1_loop.trips) : Rect S8192 := Rect.unit (s := S8192) (k0_off2 t) S16.size (k0_off2_inb t)
abbrev r3 (t : Fin k0_t1_loop.trips) : Rect S8192 := Rect.unit (s := S8192) (k0_off3 t) S16.size (k0_off3_inb t)
abbrev r4 (t : Fin k0_t1_loop.trips) : Rect S8192 := Rect.unit (s := S8192) (k0_off4 t) S16.size (k0_off4_inb t)
abbrev r5 (t : Fin k0_t1_loop.trips) : Rect S8192 := Rect.unit (s := S8192) (k0_off5 t) S16.size (k0_off5_inb t)

theorem t_lt (t : Fin k0_t1_loop.trips) : t.val < 256 := trips ▸ t.isLt

/-- The sixteen first and second coordinates trip `t` loads. -/
abbrev ldA (x : S8192.Idx → F .f32) (t : Fin k0_t1_loop.trips) : Vec F S16 .f32 := sX.view.readAt (Elt F) (r2 t).toLoadRect x
abbrev ldB (x : S8192.Idx → F .f32) (t : Fin k0_t1_loop.trips) : Vec F S16 .f32 := sX.view.readAt (Elt F) (r3 t).toLoadRect x

theorem ldA_apply (x : S8192.Idx → F .f32) (t : Fin k0_t1_loop.trips) (l : S16.Idx) :
    ldA x t l = x (at8 (16 * t.val + 128 * (t.val / 8) + (l 0).val)) := by
  refine congrArg x (eq_at8 _ _ ?_)
  show (k0_off2 t) 0 + 1 * (l 0).val = _
  rw [off2]; simp
theorem ldB_apply (x : S8192.Idx → F .f32) (t : Fin k0_t1_loop.trips) (l : S16.Idx) :
    ldB x t l = x (at8 (16 * t.val + 128 * (t.val / 8) + 128 + (l 0).val)) := by
  refine congrArg x (eq_at8 _ _ ?_)
  show (k0_off3 t) 0 + 1 * (l 0).val = _
  rw [off3]; simp

/-! ## The corners are in the table -/

section Checks

variable {x : S8192.Idx → F .f32} (hx : ∀ n, (cell (x n)).toNat < 128) (t : Fin k0_t1_loop.trips)
include hx

theorem chk1 : k0_chk1 (k0_pay15 (k0_pay3 (ldA x t)) (k0_pay4 (ldB x t)) (k0_pay9 (ldA x t) (ldB x t))) := by
  constructor <;>
  · intro a l
    obtain rfl : a = 0 := Subsingleton.elim _ _
    show (k0_pay15 (k0_pay3 (ldA x t)) (k0_pay4 (ldB x t)) (k0_pay9 (ldA x t) (ldB x t)) l).toNat < 16641
    rw [pay15_apply]; exact dof0_lt (hx _) (hx _)
theorem chk2 : k0_chk2 (k0_pay16 (k0_pay3 (ldA x t)) (k0_pay4 (ldB x t)) (k0_pay9 (ldA x t) (ldB x t))) := by
  constructor <;>
  · intro a l
    obtain rfl : a = 0 := Subsingleton.elim _ _
    show (k0_pay16 (k0_pay3 (ldA x t)) (k0_pay4 (ldB x t)) (k0_pay9 (ldA x t) (ldB x t)) l).toNat < 16641
    rw [pay16_apply]; exact dof1_lt (hx _) (hx _)
theorem chk3 : k0_chk3 (k0_pay17 (k0_pay3 (ldA x t)) (k0_pay4 (ldB x t)) (k0_pay9 (ldA x t) (ldB x t))) := by
  constructor <;>
  · intro a l
    obtain rfl : a = 0 := Subsingleton.elim _ _
    show (k0_pay17 (k0_pay3 (ldA x t)) (k0_pay4 (ldB x t)) (k0_pay9 (ldA x t) (ldB x t)) l).toNat < 16641
    rw [pay17_apply]; exact dof2_lt (hx _) (hx _)

end Checks

/-- A table read at a vector of numbers in range, one lane. -/
theorem loadIdx_apply (w : S16641.Idx → F .f32) (v : IVec S16 32) (h : ∀ a l, ((![v] : Fin 1 → IVec S16 32) a l).toNat < S16641.size a) (l : S16.Idx) :
    loadIdx (F := F) (s := S16641) (t := S16) (e := .f32) w ![v] h l = tab w (v l) :=
  (tab_of_lt w (v l) (h 0 l) _ rfl).symm

/-! ## What the two stores leave -/

/-- The sixteen values of one table. -/
def vals (w : S16641.Idx → F .f32) (va vb : Vec F S16 .f32) : Vec F S16 .f32 := fun l => val w (va l) (vb l)

theorem done_step {x : S8192.Idx → F .f32} {wx wy : S16641.Idx → F .f32} {f : S8192.Idx → F .f32} (t : Fin k0_t1_loop.trips)
    (hf : Done x wx wy t.val f) (p q : Vec F S16 .f32) (hp : p = vals wx (ldA x t) (ldB x t)) (hq : q = vals wy (ldA x t) (ldB x t)) :
    Done x wx wy (t.val + 1)
      ((sO.access (r5 t)).write (Elt F) ((sO.access (r4 t)).write (Elt F) f p Finset.univ) q Finset.univ) := by
  intro n hn
  have ht := t_lt t
  have hn8 : (n 0).val < 8192 := (n 0).isLt
  show sO.view.read (Elt F) (sO.view.writes (Elt F) f [⟨r5 t, q⟩, ⟨r4 t, p⟩]) n = _
  unfold tripOf at hn
  by_cases h5 : tripOf (n 0).val = t.val ∧ isHi (n 0).val = true
  · obtain ⟨h5, hh⟩ := h5
    unfold tripOf at h5
    unfold part; rw [if_pos hh]
    simp only [isHi, beq_iff_eq] at hh
    have hl : (n 0).val - (16 * t.val + 128 * (t.val / 8) + 128) < 16 := by omega
    rw [View.read_writes_cons_hit_of_coords sO.view f (r5 t) q _ (fun a => ⟨_, by obtain rfl : a = 0 := Subsingleton.elim _ _; exact hl⟩ : S16.Idx) n (by
      intro a; obtain rfl : a = 0 := Subsingleton.elim _ _
      show (n 0).val = (k0_off5 t) 0 + 1 * ((n 0).val - (16 * t.val + 128 * (t.val / 8) + 128))
      rw [off5]
      show (n 0).val = (16 * t.val + 128 * (t.val / 8) + 128) + 1 * ((n 0).val - (16 * t.val + 128 * (t.val / 8) + 128))
      omega), hq]
    unfold vals
    rw [ldA_apply, ldB_apply]
    unfold hi lo
    congr 3
    · show 16 * t.val + 128 * (t.val / 8) + ((n 0).val - (16 * t.val + 128 * (t.val / 8) + 128)) = _
      omega
    · show 16 * t.val + 128 * (t.val / 8) + 128 + ((n 0).val - (16 * t.val + 128 * (t.val / 8) + 128)) = _
      omega
  rw [View.read_writes_cons_miss_of_axis sO.view f ⟨r5 t, q⟩ _ n 0 (16 * t.val + 128 * (t.val / 8) + 128) 16 (by
    show (k0_off5 t) 0 = _; rw [off5]; rfl) rfl rfl (by
    simp only [tripOf, isHi, beq_iff_eq] at h5; omega)]
  by_cases h4 : tripOf (n 0).val = t.val
  · have hh : isHi (n 0).val = false := by simpa [h4] using h5
    unfold tripOf at h4
    unfold part; rw [hh, if_neg (by decide)]
    have hh' : (n 0).val / 128 % 2 ≠ 1 := by intro e; simp [isHi, e] at hh
    have hl : (n 0).val - (16 * t.val + 128 * (t.val / 8)) < 16 := by omega
    rw [View.read_writes_cons_hit_of_coords sO.view f (r4 t) p _ (fun a => ⟨_, by obtain rfl : a = 0 := Subsingleton.elim _ _; exact hl⟩ : S16.Idx) n (by
      intro a; obtain rfl : a = 0 := Subsingleton.elim _ _
      show (n 0).val = (k0_off4 t) 0 + 1 * ((n 0).val - (16 * t.val + 128 * (t.val / 8)))
      rw [off4]
      show (n 0).val = (16 * t.val + 128 * (t.val / 8)) + 1 * ((n 0).val - (16 * t.val + 128 * (t.val / 8)))
      omega), hp]
    unfold vals
    rw [ldA_apply, ldB_apply]
    unfold hi lo
    congr 3
    · show 16 * t.val + 128 * (t.val / 8) + ((n 0).val - (16 * t.val + 128 * (t.val / 8))) = _
      omega
    · show 16 * t.val + 128 * (t.val / 8) + 128 + ((n 0).val - (16 * t.val + 128 * (t.val / 8))) = _
      omega
  rw [View.read_writes_cons_miss_of_axis sO.view f ⟨r4 t, p⟩ _ n 0 (16 * t.val + 128 * (t.val / 8)) 16 (by
    show (k0_off4 t) 0 = _; rw [off4]; rfl) rfl rfl (by
    simp only [tripOf] at h4; omega)]
  exact hf n (by simp only [tripOf] at h4 ⊢; omega)

/-- A table read through the whole of its view is the table. -/
theorem read_wholeU (w : S16641.Idx → F .f32) : (sU.access (Rect.whole S16641)).read (Elt F) w = w := by
  funext n
  refine congrArg w (funext fun a => Fin.ext ?_)
  show 0 + 1 * (n a).val = _
  omega
theorem read_wholeW (w : S16641.Idx → F .f32) : (sW.access (Rect.whole S16641)).read (Elt F) w = w := by
  funext n
  refine congrArg w (funext fun a => Fin.ext ?_)
  show 0 + 1 * (n a).val = _
  omega

/-! ## The trip -/

section Trip

variable (d : Dev nD) (L : grid0.Coords)

/-- The tile's thread. -/
abbrev thr : Thread nD τ := V d (cV L) (jV L)

/-- The trip as a program: the region of the loop. -/
abbrev tripProg (t : Fin k0_t1_loop.trips) : Prog (TpuEff nD τ sig (Elt F) Λ₀ (.scVector (cV L) (jV L))) Unit :=
  k0_t1_body L xV (Memref.isWhole_whole _) uV (Memref.isWhole_whole _) wV (Memref.isWhole_whole _) oV (Memref.isWhole_whole _)
    sX (Memref.isWhole_whole _) sU (Memref.isWhole_whole _) sW (Memref.isWhole_whole _) sO (Memref.isWhole_whole _)
    cc0_scratch4 cc0_scratch5 cc0_scoped0 t ()

theorem trip (t : Fin k0_t1_loop.trips) (x : Buf (Elt F) (sX.view.loc (thr d L))) (wx : Buf (Elt F) (sU.view.loc (thr d L)))
    (wy : Buf (Elt F) (sW.view.loc (thr d L))) (f : Buf (Elt F) (sO.view.loc (thr d L)))
    (hx : ∀ n, (cell (F := F) (x n)).toNat < 128) (hf : Done (F := F) x wx wy t.val f) :
    iprop((sX.view.loc (thr d L) ↦{fullShare} x) ∗ (sU.view.loc (thr d L) ↦{fullShare} wx) ∗ (sW.view.loc (thr d L) ↦{fullShare} wy)
        ∗ (sO.view.loc (thr d L) ↦{fullShare} f))
      ⊢ wp frame (wpE (defs₀ (F := F)) 𝒱₀ (thr d L) none) Set.univ (tripProg (F := F) L t)
          fun _ => (iprop((sX.view.loc (thr d L) ↦{fullShare} x) ∗ (sU.view.loc (thr d L) ↦{fullShare} wx) ∗ (sW.view.loc (thr d L) ↦{fullShare} wy)
            ∗ ∃ f', ⌜Done (F := F) x wx wy (t.val + 1) f'⌝ ∗ (sO.view.loc (thr d L) ↦{fullShare} f')) : sProp 𝕄) := by
  unfold tripProg k0_t1_body
  simp only [k0_part2_eq_skeleton]; unfold k0_part2_skel
  simp only [k0_part1_eq_skeleton]; unfold k0_part1_skel
  simp only [Prog.lift, Prog.bind_op, Prog.bind_ret, Prog.pure_eq_ret, Prog.bind_assoc]
  iintro ⟨Hx, Hu, Hw, Ho⟩
  iapply (wp_load 𝒱₀ (thr d L) none Set.univ (m := sX) (S := Finset.univ) (Finset.subset_univ _)) $$ Hx; iintro Hx
  iapply (wp_load 𝒱₀ (thr d L) none Set.univ (m := sX) (S := Finset.univ) (Finset.subset_univ _)) $$ Hx; iintro Hx
  rw [wp_assume_of _ _ _ _ (chk1 hx t)]
  rw [wp_assume_of _ _ _ _ (chk2 hx t)]
  rw [wp_assume_of _ _ _ _ (chk3 hx t)]
  iapply (SparseCore.wp_vectorLoadIdx 𝒱₀ (thr d L) none Set.univ (base := sU) (S := Finset.univ) (q := fullShare) (Finset.subset_univ _)) $$ Hu; iintro Hu
  iapply (SparseCore.wp_vectorLoadIdx 𝒱₀ (thr d L) none Set.univ (base := sU) (S := Finset.univ) (q := fullShare) (Finset.subset_univ _)) $$ Hu; iintro Hu
  iapply (SparseCore.wp_vectorLoadIdx 𝒱₀ (thr d L) none Set.univ (base := sU) (S := Finset.univ) (q := fullShare) (Finset.subset_univ _)) $$ Hu; iintro Hu
  iapply (SparseCore.wp_vectorLoadIdx 𝒱₀ (thr d L) none Set.univ (base := sW) (S := Finset.univ) (q := fullShare) (Finset.subset_univ _)) $$ Hw; iintro Hw
  iapply (SparseCore.wp_vectorLoadIdx 𝒱₀ (thr d L) none Set.univ (base := sW) (S := Finset.univ) (q := fullShare) (Finset.subset_univ _)) $$ Hw; iintro Hw
  iapply (SparseCore.wp_vectorLoadIdx 𝒱₀ (thr d L) none Set.univ (base := sW) (S := Finset.univ) (q := fullShare) (Finset.subset_univ _)) $$ Hw; iintro Hw
  iapply (wp_load 𝒱₀ (thr d L) none Set.univ (m := sO) (S := Finset.univ) (Finset.subset_univ _)) $$ Ho; iintro Ho
  iapply (wp_store 𝒱₀ (thr d L) none Set.univ (m := sO) (r := r4 t) (Mk := Finset.univ) (S := Finset.univ) (Finset.subset_univ _)) $$ Ho; iintro Ho
  iapply (wp_load 𝒱₀ (thr d L) none Set.univ (m := sO) (S := Finset.univ) (Finset.subset_univ _)) $$ Ho; iintro Ho
  iapply (wp_store 𝒱₀ (thr d L) none Set.univ (m := sO) (r := r5 t) (Mk := Finset.univ) (S := Finset.univ) (Finset.subset_univ _)) $$ Ho; iintro Ho
  rw [wp_ret]; imodintro
  isplitl [Hx]; · iexact Hx
  isplitl [Hu]; · iexact Hu
  isplitl [Hw]; · iexact Hw
  iexists _; isplitr
  rotate_left
  · iexact Ho
  · ipureintro
    refine done_step t hf _ _ ?_ ?_
    · funext l
      exact (pay18_apply _ _ l _ _ _).trans (by rw [loadIdx_apply, loadIdx_apply, loadIdx_apply, read_wholeU, pay15_apply, pay16_apply, pay17_apply]; rfl)
    · funext l
      exact (pay19_apply _ _ l _ _ _).trans (by rw [loadIdx_apply, loadIdx_apply, loadIdx_apply, read_wholeW, pay15_apply, pay16_apply, pay17_apply]; rfl)

end Trip

end Cert.Proof.Tile

end
-- ==== Proof.Body.lean ====
/-
  One tile's whole task.

  The tile copies its slice of the coordinates and both tables into its scratch, runs the 256 trips, and copies the scratch result out to
  its slice of the flat result. It is handed its slice of the coordinates, a read share of each table and its slice of the result; it gives
  them back with the result's slice at `flat`.
-/
module

public import proofs.«01_k».proof.Proof.Trip

@[expose] public section

noncomputable section

namespace Cert.Proof.Tile

open Cert.KernelIdeal Cert.KernelIdeal.Gen Cert.Proof.Offsets Cert.Proof.Interp

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The slice of the flat result -/

theorem rK_emb_at1 (L : grid0.Coords) (n : Nat) (h : n < 8192) : (rK L).emb (at8 n) = at1 (start L + n) := by
  funext a
  obtain rfl : a = 0 := Subsingleton.elim _ _
  apply Fin.ext
  rw [rK_emb, at8_val n h]
  have := start_le L
  exact (Nat.mod_eq_of_lt (show start L + n < 262144 by omega)).symm

/-- The result over a tile's slice is the slice of the flat result: the slice begins at a multiple of 256. -/
theorem part_slice (L : grid0.Coords) (x : S262144.Idx → F .f32) (wx wy : S16641.Idx → F .f32) (n : S8192.Idx) :
    part (fun k => x ((rK L).emb k)) wx wy n = flat x wx wy ((rK L).emb n) := by
  have hn : (n 0).val < 8192 := (n 0).isLt
  have hs : start L % 256 = 0 := by unfold start; omega
  unfold part flat
  rw [rK_emb]
  have e1 : isHi (start L + (n 0).val) = isHi (n 0).val := by
    unfold isHi; congr 1; omega
  have e2 : lo (start L + (n 0).val) = start L + lo (n 0).val := by unfold lo; omega
  have e3 : hi (start L + (n 0).val) = start L + hi (n 0).val := by unfold hi lo; omega
  beta_reduce
  rw [e1, e2, e3, rK_emb_at1 L _ (by unfold lo; omega), rK_emb_at1 L _ (by unfold hi lo; omega)]

/-- After the last trip the scratch holds the result everywhere. -/
theorem done_all {x : S8192.Idx → F .f32} {wx wy : S16641.Idx → F .f32} {f : S8192.Idx → F .f32} (h : Done x wx wy k0_t1_loop.trips f) :
    f = part x wx wy := by
  funext n
  refine h n ?_
  have hn : (n 0).val < 8192 := (n 0).isLt
  rw [trips]; unfold tripOf; omega

section Tile

variable (d : Dev nD) (L : grid0.Coords)

/-! ## The tile's own cells and buffers -/

abbrev cellX (d : Dev nD) (c : Fin τ.nSC) (i : Fin τ.nSub) : GSem nD τ sig := (V d c i, .dma cc0_scratch4.sem)
abbrev cellT (d : Dev nD) (c : Fin τ.nSC) (i : Fin τ.nSub) : GSem nD τ sig := (V d c i, .dma cc0_scratch5.sem)
abbrev cellO (d : Dev nD) (c : Fin τ.nSC) (i : Fin τ.nSub) : GSem nD τ sig := (V d c i, .dma cc0_scoped0.sem)

omit [FloatOps F] in
theorem ownSems0_V (c : Fin τ.nSC) (i : Fin τ.nSub) :
    (ownSems0 (V d c i) : sProp 𝕄)
      = iprop(semVal (cellX d c i) 0 ∗ semVal (cellT d c i) 0 ∗ semVal (cellO d c i) 0
          ∗ bigSep ((((ownCells (V d c i)).erase (cellX d c i)).erase (cellT d c i)).erase (cellO d c i)) fun g => semVal g 0) := by
  unfold SparseCore.Cfg.ownSems0
  rw [SparseCore.bigSep_erase' ((mem_ownCells (g := cellX d c i)).mpr ⟨rfl, by
      show (SemLoc.dma cc0_scratch4.sem : SemLoc sig).isScoped .scVector = true; decide⟩),
    SparseCore.bigSep_erase' (Finset.mem_erase.mpr ⟨by simp [cellX, cellT]; decide, (mem_ownCells (g := cellT d c i)).mpr ⟨rfl, by
      show (SemLoc.dma cc0_scratch5.sem : SemLoc sig).isScoped .scVector = true; decide⟩⟩),
    SparseCore.bigSep_erase' (Finset.mem_erase.mpr ⟨by simp [cellT, cellO]; decide, Finset.mem_erase.mpr ⟨by simp [cellX, cellO]; decide,
      (mem_ownCells (g := cellO d c i)).mpr ⟨rfl, by show (SemLoc.dma cc0_scoped0.sem : SemLoc sig).isScoped .scVector = true; decide⟩⟩⟩)]

/-- A scratch buffer of the tile as a reference of the device. -/
abbrev ref (c : Fin τ.nSC) (i : Fin τ.nSub) (b : Ref sig .scVector) : DevRef τ sig := (Proc.scVector c i).devRef b

omit [FloatOps F] in
/-- The four scratch buffers are among the tile's own. -/
theorem ownBufs_V (c : Fin τ.nSC) (i : Fin τ.nSub) :
    (ownBufs (V d c i) : sProp 𝕄)
      = iprop((∃ f, (V d c i).loc cc0_scratch0 ↦{fullShare} f) ∗ (∃ f, (V d c i).loc cc0_scratch1 ↦{fullShare} f)
          ∗ (∃ f, (V d c i).loc cc0_scratch2 ↦{fullShare} f) ∗ (∃ f, (V d c i).loc cc0_scratch3 ↦{fullShare} f)
          ∗ bigSep (((((ownRefs (τ := τ) (.scVector c i)).erase (ref c i cc0_scratch0)).erase (ref c i cc0_scratch1)).erase
              (ref c i cc0_scratch2)).erase (ref c i cc0_scratch3)) fun b => iprop(∃ f, ((d, b) : Loc nD τ sig) ↦{fullShare} f)) := by
  have ne : ∀ {a b : Ref sig .scVector}, a ≠ b → ref c i a ≠ ref c i b := fun h e => h (Proc.devRef_injective _ e)
  unfold SparseCore.Cfg.ownBufs
  refine (SparseCore.bigSep_erase' (SparseCore.Cfg.mem_ownRefs_of_owner (p := Proc.scVector c i) (b := ref c i cc0_scratch0) rfl)).trans ?_
  rw [SparseCore.bigSep_erase' (Finset.mem_erase.mpr ⟨ne (show (cc0_scratch1 : Ref sig .scVector) ≠ cc0_scratch0 by decide),
      SparseCore.Cfg.mem_ownRefs_of_owner (p := Proc.scVector c i) (b := ref c i cc0_scratch1) rfl⟩),
    SparseCore.bigSep_erase' (Finset.mem_erase.mpr ⟨ne (show (cc0_scratch2 : Ref sig .scVector) ≠ cc0_scratch1 by decide),
      Finset.mem_erase.mpr ⟨ne (show (cc0_scratch2 : Ref sig .scVector) ≠ cc0_scratch0 by decide),
      SparseCore.Cfg.mem_ownRefs_of_owner (p := Proc.scVector c i) (b := ref c i cc0_scratch2) rfl⟩⟩),
    SparseCore.bigSep_erase' (Finset.mem_erase.mpr ⟨ne (show (cc0_scratch3 : Ref sig .scVector) ≠ cc0_scratch2 by decide),
      Finset.mem_erase.mpr ⟨ne (show (cc0_scratch3 : Ref sig .scVector) ≠ cc0_scratch1 by decide),
      Finset.mem_erase.mpr ⟨ne (show (cc0_scratch3 : Ref sig .scVector) ≠ cc0_scratch0 by decide),
      SparseCore.Cfg.mem_ownRefs_of_owner (p := Proc.scVector c i) (b := ref c i cc0_scratch3) rfl⟩⟩⟩)]

/-! ## The arrays as the tile's memrefs address them -/

omit [FloatOps F] in
theorem pts_xSl (f : Buf (Elt F) (xLoc d)) :
    ((xSl L).view.loc (thr d L) ↦[(xSl L).view.set]{fullShare} f : sProp 𝕄) = xLoc d ↦[slice L]{fullShare} f := by rw [set_xSl]
omit [FloatOps F] in
theorem pts_oSl (f : Buf (Elt F) (oLoc d)) :
    ((oSl L).view.loc (thr d L) ↦[(oSl L).view.set]{fullShare} f : sProp 𝕄) = oLoc d ↦[slice L]{fullShare} f := by rw [set_oSl]

/-- A write through the whole of a view, read back. -/
theorem read_writes_whole {Val : EltTy → Type} {κ : Kind} {sp : Space} {s : Shape} {e : EltTy} (v : View sig κ sp s e) (f : v.ty.Contents Val)
    (p : s.Idx → Val e) (n : s.Idx) : v.read Val (v.writes Val f [⟨Rect.whole s, p⟩]) n = p n :=
  View.read_writes_cons_hit_of_coords v f (Rect.whole s) p [] n n fun a => by
    show (n a).val = 0 + 1 * (n a).val
    omega

omit [FloatOps F] in
/-- What a copy of the scratch leaves over the tile's slice of the result. -/
theorem landed (o : S262144.Idx → F .f32) (p : S8192.Idx → F .f32) (g : S262144.Idx → F .f32) (h : ∀ n, p n = g ((rK L).emb n)) :
    ∀ i ∈ slice L, (oSl L).view.writes (Elt F) o [⟨Rect.whole S8192, p⟩] i = g i := by
  intro i hi
  obtain ⟨n, hn⟩ := (rK L).exists_idx_of_mem hi
  have e : i = (rK L).emb n := hn.symm
  rw [e]
  have key := read_writes_whole (Val := Elt F) (oSl L).view o p n
  rw [View.read_apply] at key
  exact ((cast_eq _ _).symm.trans key).trans (h n)

/-- What a tile is handed, and hands back, of the four arrays: the result's slice at `o`. -/
def tileHeld (q : PosShare TreeShare) (x : S262144.Idx → F .f32) (wx wy : S16641.Idx → F .f32) (o : S262144.Idx → F .f32) : sProp 𝕄 :=
  iprop((xLoc d ↦[slice L]{fullShare} x) ∗ (uLoc d ↦{q} wx) ∗ (wLoc d ↦{q} wy) ∗ (oLoc d ↦[slice L]{fullShare} o))

/-- The loop's invariant at trip `k`. -/
def inv (x : S8192.Idx → F .f32) (wx wy : S16641.Idx → F .f32) (k : Nat) (_ : PUnit) : sProp 𝕄 :=
  iprop((sX.view.loc (thr d L) ↦{fullShare} x) ∗ (sU.view.loc (thr d L) ↦{fullShare} wx) ∗ (sW.view.loc (thr d L) ↦{fullShare} wy)
    ∗ ∃ f, ⌜Done x wx wy k f⌝ ∗ (sO.view.loc (thr d L) ↦{fullShare} f))

theorem tile_body (hF : (K (F := F)).Facts) (q : PosShare TreeShare) (x : S262144.Idx → F .f32) (wx wy : S16641.Idx → F .f32) (o : S262144.Idx → F .f32)
    (hx : ∀ n, (cell (x n)).toNat < 128) (O : CellTallies nD τ sig (HIx 1)) (W : Waits sig (HIx 1)) (hO : ∀ g, O g none = 0) :
    iprop(levAts (K (F := F)).L (K (F := F)).lev ∗ emp ∗ tileHeld d L q x wx wy o
        ∗ scopedBufs (thr d L) ∗ scopedSems0 (thr d L) ∗ owes (thr d L) O W)
      ⊢ wp frame (wpE (defs₀ (F := F)) 𝒱₀ (thr d L) none) Set.univ
          (cc0_body L xV (Memref.isWhole_whole _) uV (Memref.isWhole_whole _) wV (Memref.isWhole_whole _) oV (Memref.isWhole_whole _)
            sX (Memref.isWhole_whole _) sU (Memref.isWhole_whole _) sW (Memref.isWhole_whole _) sO (Memref.isWhole_whole _)
            cc0_scratch4 cc0_scratch5 cc0_scoped0)
          fun _ => iprop(tileHeld d L q x wx wy (flat x wx wy) ∗ scopedBufs (thr d L) ∗ scopedSems0 (thr d L)
            ∗ ∃ W', ⌜∀ p ∈ W', p ∈ W ∨ p.2 = none⌝ ∗ owes (thr d L) O W') := by
  simp only [cc0_body_eq_skeleton]; unfold cc0_body_skel
  rw [(K (F := F)).scopedBufs_V hF d (cV L) (jV L), SparseCore.Cfg.scopedSems0_V (Val := Elt F) d (cV L) (jV L), ownSems0_V, ownBufs_V]
  unfold tileHeld
  have _plan : Transfers.BatchOf (thr d L) (SemLoc.dma cc0_scratch5.sem) 2 := trivial
  iintro ⟨#Hlv, -, ⟨Hx, Hu, Hw, Ho⟩, ⟨⟨%f0, H0⟩, ⟨%f1, H1⟩, ⟨%f2, H2⟩, ⟨%f3, H3⟩, Hbufs⟩, ⟨HsX, HsT, HsO, Hsems⟩, HO⟩
  ihave Hmw := ((K (F := F)).mayWaits_none (thr := thr d L) hO) $$ Hlv
  ihave Hx' := (Entails.of_eq (pts_xSl (F := F) d L _).symm) $$ Hx
  ihave Ho' := (Entails.of_eq (pts_oSl (F := F) d L _).symm) $$ Ho
  ihave Hu' := (show iprop(uLoc d ↦{q} wx) ⊢ (iprop(uV.view.loc (thr d L) ↦{q} wx) : sProp 𝕄) from Entails.rfl) $$ Hu
  ihave Hw' := (show iprop(wLoc d ↦{q} wy) ⊢ (iprop(wV.view.loc (thr d L) ↦{q} wy) : sProp 𝕄) from Entails.rfl) $$ Hw
  ihave H0' := (show iprop((thr d L).loc cc0_scratch0 ↦{fullShare} f0) ⊢ (iprop(sX.view.loc (thr d L) ↦{fullShare} f0) : sProp 𝕄) from Entails.rfl) $$ H0
  ihave H1' := (show iprop((thr d L).loc cc0_scratch1 ↦{fullShare} f1) ⊢ (iprop(sU.view.loc (thr d L) ↦{fullShare} f1) : sProp 𝕄) from Entails.rfl) $$ H1
  ihave H2' := (show iprop((thr d L).loc cc0_scratch2 ↦{fullShare} f2) ⊢ (iprop(sW.view.loc (thr d L) ↦{fullShare} f2) : sProp 𝕄) from Entails.rfl) $$ H2
  ihave H3' := (show iprop((thr d L).loc cc0_scratch3 ↦{fullShare} f3) ⊢ (iprop(sO.view.loc (thr d L) ↦{fullShare} f3) : sProp 𝕄) from Entails.rfl) $$ H3
  sl_exec
  ihave H0 := (Entails.of_eq (congrArg (fun g => (iprop(sX.view.loc (thr d L) ↦{fullShare} g) : sProp 𝕄))
    (show _ = (fun k => x ((rK L).emb k)) from View.write_whole_univ _ _ _))) $$ H0'
  ihave H1 := (Entails.of_eq (congrArg (fun g => (iprop(sU.view.loc (thr d L) ↦{fullShare} g) : sProp 𝕄))
    (show _ = wx from View.write_whole_univ _ _ _))) $$ H1'
  ihave H2 := (Entails.of_eq (congrArg (fun g => (iprop(sW.view.loc (thr d L) ↦{fullShare} g) : sProp 𝕄))
    (show _ = wy from View.write_whole_univ _ _ _))) $$ H2'
  sl_for (inv d L (fun k => x ((rK L).emb k)) wx wy) $$ [H0 H1 H2 H3']
  case region =>
    intro k _
    unfold inv
    iintro ⟨H0, H1, H2, %f, %hf, H3⟩
    iapply (trip d L k (fun k => x ((rK L).emb k)) wx wy f (fun n => hx _) hf) $$ [H0 H1 H2 H3]
    isplitl [H0]; · iexact H0
    isplitl [H1]; · iexact H1
    isplitl [H2]; · iexact H2
    iexact H3
  · unfold inv
    isplitl [H0]; · iexact H0
    isplitl [H1]; · iexact H1
    isplitl [H2]; · iexact H2
    iexists f3; isplitr
    · ipureintro; intro n hn; omega
    · iexact H3'
  iintro %_ HI
  unfold inv
  icases HI with ⟨H0, H1, H2, %f, %hf, H3⟩
  have hf' := done_all hf
  subst hf'
  sl_exec
  sl_step
  ihave Ho := (Entails.of_eq (pts_oSl (F := F) d L _)) $$ Ho'
  ihave Ho' := (Entails.of_eq (pointsTo_congr (landed L o _ (flat x wx wy) (fun n => part_slice L x wx wy n)))) $$ Ho
  ihave Hx := (Entails.of_eq (pts_xSl (F := F) d L _)) $$ Hx'
  isplitl [Hx Hu' Hw' Ho']
  · isplitl [Hx]; · iexact Hx
    isplitl [Hu']; · iexact Hu'
    isplitl [Hw']; · iexact Hw'
    iexact Ho'
  isplitl [H0 H1 H2 H3 Hbufs]
  · isplitl [H0]; · iexists _; iexact H0
    isplitl [H1]; · iexists _; iexact H1
    isplitl [H2]; · iexists _; iexact H2
    isplitl [H3]; · iexists _; iexact H3
    iexact Hbufs
  isplitl [HsX HsT HsO Hsems]
  · isplitl [HsX]; · iexact HsX
    isplitl [HsT]; · iexact HsT
    isplitl [HsO]; · iexact HsO
    iexact Hsems
  iexists _; isplitr
  rotate_left
  · iexact HO
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp

end Tile

end Cert.Proof.Tile

end
-- ==== Proof.Tiles.lean ====
/-
  The four arrays shared out among the thirty-two tiles, and put together again.

  The slices of the tiles are disjoint and cover the flat arrays. A table is dealt out in read shares, first to the two SparseCores, then
  to the sixteen tiles of each.
-/
module

public import proofs.«01_k».proof.Proof.Body

@[expose] public section

noncomputable section

namespace Cert.Proof.Tile

open Cert.KernelIdeal Cert.KernelIdeal.Gen Cert.Proof.Offsets Cert.Proof.Interp

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The coordinates of tile `i` of SparseCore `c`. -/
def coordsV (c : Fin (grid0.bound 0)) (i : Fin (grid0.bound 1)) : grid0.Coords :=
  fun | 0 => c | 1 => i | ⟨_ + 2, h⟩ => absurd h (Nat.not_lt.2 (Nat.le_add_left _ _))

abbrev tile (p : Fin 2 × Fin 16) : grid0.Coords := coordsV p.1 p.2

theorem start_tile (p : Fin 2 × Fin 16) : start (tile p) = 16384 * p.2.val + 8192 * p.1.val := rfl

theorem mem_slice (L : grid0.Coords) (n : S262144.Idx) : n ∈ slice L ↔ start L ≤ (n 0).val ∧ (n 0).val < start L + 8192 := by
  refine (rK L).mem_set.trans ?_
  have e : (rK L).off 0 = start L := by
    show (k0_off1 L) 0 = _
    rw [k0_off1_eq]; rfl
  constructor
  · intro h
    obtain ⟨j, hj, hn⟩ := h 0
    have hj' : j < 8192 := hj
    have hn' : (n 0).val = start L + 1 * j := by rw [← e]; exact hn
    omega
  · intro h a
    obtain rfl : a = 0 := Subsingleton.elim _ _
    refine ⟨(n 0).val - start L, ?_, ?_⟩
    · show (n 0).val - start L < 8192
      omega
    · show (n 0).val = (rK L).off 0 + 1 * ((n 0).val - start L)
      rw [e]; omega

theorem slices_disjoint : ∀ p ∈ (Finset.univ : Finset (Fin 2 × Fin 16)), ∀ p' ∈ (Finset.univ : Finset (Fin 2 × Fin 16)), p ≠ p' →
    Disjoint (slice (tile p)) (slice (tile p')) := by
  intro p _ p' _ hne
  refine Finset.disjoint_left.mpr fun n h h' => hne ?_
  rw [mem_slice, start_tile] at h h'
  have h1 := p.1.isLt; have h2 := p'.1.isLt
  exact Prod.ext (Fin.ext (by omega)) (Fin.ext (by omega))

theorem slices_cover : (Finset.univ : Finset (Fin 2 × Fin 16)).biUnion (fun p => slice (tile p)) = Finset.univ := by
  refine Finset.eq_univ_of_forall fun n => ?_
  have hn : (n 0).val < 262144 := (n 0).isLt
  refine Finset.mem_biUnion.mpr ⟨(⟨(n 0).val / 8192 % 2, by omega⟩, ⟨(n 0).val / 16384, by omega⟩), Finset.mem_univ _, ?_⟩
  rw [mem_slice, start_tile]
  show 16384 * ((n 0).val / 16384) + 8192 * ((n 0).val / 8192 % 2) ≤ (n 0).val ∧ _ < 16384 * ((n 0).val / 16384) + 8192 * ((n 0).val / 8192 % 2) + 8192
  omega

omit [FloatOps F] in
theorem x_tiles (d : Dev nD) (f : Buf (Elt F) (xLoc d)) :
    (xLoc d ↦{fullShare} f : sProp 𝕄) = bigSep Finset.univ fun c : Fin 2 => bigSep Finset.univ fun i : Fin 16 => xLoc d ↦[slice (tile (c, i))]{fullShare} f := by
  rw [← bigSep_univ_prod (fun p : Fin 2 × Fin 16 => (xLoc d ↦[slice (tile p)]{fullShare} f : sProp 𝕄)),
    ← pointsTo_biUnion Finset.univ (ℓ := xLoc d) (fun p => slice (tile p)) slices_disjoint, slices_cover]
omit [FloatOps F] in
theorem o_tiles (d : Dev nD) (f : Buf (Elt F) (oLoc d)) :
    (oLoc d ↦{fullShare} f : sProp 𝕄) = bigSep Finset.univ fun c : Fin 2 => bigSep Finset.univ fun i : Fin 16 => oLoc d ↦[slice (tile (c, i))]{fullShare} f := by
  rw [← bigSep_univ_prod (fun p : Fin 2 × Fin 16 => (oLoc d ↦[slice (tile p)]{fullShare} f : sProp 𝕄)),
    ← pointsTo_biUnion Finset.univ (ℓ := oLoc d) (fun p => slice (tile p)) slices_disjoint, slices_cover]

/-- The read share of a table that tile `i` of SparseCore `c` holds. -/
def share (c : Fin 2) (i : Fin 16) : PosShare TreeShare :=
  Transfers.dealOf (Transfers.dealOf fullShare (Finset.univ : Finset (Fin 2)) c) (Finset.univ : Finset (Fin 16)) i

omit [FloatOps F] in
theorem table_tiles (ℓ : Loc nD τ sig) (f : Buf (Elt F) ℓ) :
    (ℓ ↦{fullShare} f : sProp 𝕄) = bigSep Finset.univ fun c : Fin 2 => bigSep Finset.univ fun i : Fin 16 => ℓ ↦{share c i} f :=
  (Transfers.pointsTo_deal (Finset.univ : Finset (Fin 2)) Finset.univ_nonempty fullShare).trans
    (bigSep_congr fun _ _ => Transfers.pointsTo_deal (Finset.univ : Finset (Fin 16)) Finset.univ_nonempty _)

omit [FloatOps F] in
/-- The tiles' holdings together are the four arrays whole. -/
theorem tiles_eq (d : Dev nD) (x : S262144.Idx → F .f32) (wx wy : S16641.Idx → F .f32) (o : S262144.Idx → F .f32) :
    (bigSep Finset.univ fun c : Fin 2 => bigSep Finset.univ fun i : Fin 16 => tileHeld d (tile (c, i)) (share c i) x wx wy o)
      = (iprop((xLoc d ↦{fullShare} x) ∗ (uLoc d ↦{fullShare} wx) ∗ (wLoc d ↦{fullShare} wy) ∗ (oLoc d ↦{fullShare} o)) : sProp 𝕄) := by
  unfold tileHeld
  simp only [bigSep_sep']
  rw [x_tiles d x, o_tiles d o, table_tiles (uLoc d) wx, table_tiles (wLoc d) wy]

end Cert.Proof.Tile

end
-- ==== Proof.Launch.lean ====
/-
  The kernel's run: the host's three operations that lay the coordinates out flat, the call to the thirty-two tiles, and the host's three
  operations that lay the flat result out again.

  `vals7` is what every array holds at the end; the run leaves the arrays at it, and so the six arguments as they were.
-/
module

public import proofs.«01_k».proof.Proof.Tiles

@[expose] public section

noncomputable section

namespace Cert.Proof.Tile

open Cert.KernelIdeal Cert.KernelIdeal.Gen Cert.Proof.Offsets Cert.Proof.Interp

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sub_split held_congr wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the arrays hold, step by step -/

/-- An array of the host, as a reference of the device. -/
abbrev dr (b : Ref sig .tc) : DevRef τ sig := Proc.devRef .tc b

abbrev op0 : HloOp τ sig (Elt F) := StableHlo.reshape main_arg0 main_v0 (rfl : (.f32 : EltTy) = .f32) shapeCasts_S16x8192x2_S16x64x128x2
abbrev op1 : HloOp τ sig (Elt F) := StableHlo.unary main_v0 main_v1 ((transpose S16x64x2x128 [0, 1, 3, 2] · transposes_S16x64x128x2_S16x64x2x128_0_1_3_2) : (⟨S16x64x128x2, .f32⟩ : BufTy).Contents (Elt F) → (⟨S16x64x2x128, .f32⟩ : BufTy).Contents (Elt F))
abbrev op2 : HloOp τ sig (Elt F) := StableHlo.reshape main_v1 main_v2 (rfl : (.f32 : EltTy) = .f32) shapeCasts_S16x64x2x128_S262144
abbrev op4 : HloOp τ sig (Elt F) := StableHlo.reshape main_v3 main_v4 (rfl : (.f32 : EltTy) = .f32) shapeCasts_S262144_S16x64x2x128
abbrev op5 : HloOp τ sig (Elt F) := StableHlo.unary main_v4 main_v5 ((transpose S16x64x128x2 [0, 1, 3, 2] · transposes_S16x64x2x128_S16x64x128x2_0_1_3_2) : (⟨S16x64x2x128, .f32⟩ : BufTy).Contents (Elt F) → (⟨S16x64x128x2, .f32⟩ : BufTy).Contents (Elt F))
abbrev op6 : HloOp τ sig (Elt F) := StableHlo.reshape main_v5 main_v6 (rfl : (.f32 : EltTy) = .f32) shapeCasts_S16x64x128x2_S16x8192x2

/-- The arrays at the launch; after the flat layout; after the call; at the end. -/
def vals0 (d : Dev nD) : Valuation τ sig (Elt F) := fun b => m (d, b)
def vals3 (d : Dev nD) : Valuation τ sig (Elt F) := op2.result (op1.result (op0.result (vals0 m d)))
def flatOf (d : Dev nD) : S262144.Idx → F .f32 := flat (vals3 m d (dr main_v2)) (vals3 m d (dr main_arg1)) (vals3 m d (dr main_arg2))
def vals4 (d : Dev nD) : Valuation τ sig (Elt F) := Function.update (vals3 m d) (dr main_v3) (flatOf m d)
def vals7 (d : Dev nD) : Valuation τ sig (Elt F) := op6.result (op5.result (op4.result (vals4 m d)))

/-- What the run asks of the launch memory: the square of every flat coordinate is one of the grid's. -/
def InRange : Prop := ∀ (d : Dev nD) (n : S262144.Idx), (cell (F := F) (vals3 m d (dr main_v2) n)).toNat < 128

/-! ## What the handshakes carry -/

/-- A tile's holding at the call, the result's slice at `o`. -/
abbrev hold (d : Dev nD) (c : Fin 2) (i : Fin 16) (o : S262144.Idx → F .f32) : sProp 𝕄 :=
  tileHeld d (coordsV c i) (share c i) (vals3 m d (dr main_v2)) (vals3 m d (dr main_arg1)) (vals3 m d (dr main_arg2)) o

omit [FloatOps F] in
instance tileHeld_storable (d : Dev nD) (L : grid0.Coords) (q : PosShare TreeShare) (x : S262144.Idx → F .f32) (wx wy : S16641.Idx → F .f32)
    (o : S262144.Idx → F .f32) : BI.Storable (upEmb : UEmb _ 𝕄) (tileHeld d L q x wx wy o) := by
  unfold tileHeld; infer_instance

/-- The call hands each tile its holding and takes it back, the result's slice computed. -/
def P : (K (F := F)).Pay (nD := nD) (Val := Elt F) (Name := ℕ) (U := UU) where
  st := fun q d c => match q with | 0 => bigSep Finset.univ fun i : Fin 16 => hold m d c i (vals3 m d (dr main_v3))
  dn := fun q d c => match q with | 0 => bigSep Finset.univ fun i : Fin 16 => hold m d c i (flatOf m d)
  go := fun q d c i => match q with | 0 => hold m d c i (vals3 m d (dr main_v3))
  td := fun q d c i => match q with | 0 => hold m d c i (flatOf m d)
  x := fun _ _ => iprop(emp)

theorem tiles_storable (d : Dev nD) (c : Fin 2) (o : S262144.Idx → F .f32) :
    BI.Storable (upEmb : UEmb _ 𝕄) (bigSep Finset.univ fun i : Fin 16 => hold m d c i o) :=
  haveI : ∀ i : Fin 16, BI.Storable (upEmb : UEmb _ 𝕄) (hold m d c i o) := fun _ => tileHeld_storable _ _ _ _ _ _ _
  inferInstance

instance P_storable : (P (F := F) m).IsStorable where
  st q d c := match q with
    | 0 => tiles_storable m d c _
  dn q d c := match q with
    | 0 => tiles_storable m d c _
  go q d c i := match q with
    | 0 => (inferInstance : BI.Storable (upEmb : UEmb _ 𝕄) (hold m d c i (vals3 m d (dr main_v3))))
  td q d c i := match q with
    | 0 => (inferInstance : BI.Storable (upEmb : UEmb _ 𝕄) (hold m d c i (flatOf m d)))

/-! ## The tiles' obligation -/

theorem defs₀_vector (c : Fin τ.nSC) (s : Fin τ.nSub) :
    defs₀ (F := F) (.scVector c s) 0 ()
      = SparseCore.onTile hcore0 hsub0 (fun c s => cc0_body (coordsV c s)
          xV (Memref.isWhole_whole _) uV (Memref.isWhole_whole _) wV (Memref.isWhole_whole _) oV (Memref.isWhole_whole _)
          sX (Memref.isWhole_whole _) sU (Memref.isWhole_whole _) sW (Memref.isWhole_whole _) sO (Memref.isWhole_whole _)
          cc0_scratch4 cc0_scratch5 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : InRange m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF (share c i) (vals3 m d (dr main_v2)) (vals3 m d (dr main_arg1)) (vals3 m d (dr main_arg2))
    (vals3 m d (dr main_v3)) (hpre d) O W hO).trans (wp_mono frame _ _ fun _ => obl_post)

theorem vecSplit : (K (F := F)).VecSplit' (P m) 0 := by
  intro d c
  show (bigSep Finset.univ fun i : Fin 16 => hold m d c i (vals3 m d (dr main_v3))) ⊢ |={Set.univ}=> iprop(
      (bigSep Finset.univ fun i : Fin 16 => hold m d c i (vals3 m d (dr main_v3)))
      ∗ ((bigSep Finset.univ fun i : Fin 16 => hold m d c i (flatOf m d)) -∗ (bigSep Finset.univ fun i : Fin 16 => hold m d c i (flatOf m d))))
  iintro H; imodintro
  isplitl [H]; · iexact H
  iintro H; iexact H

/-! ## The launch element: the handshakes' rounds, nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The host's program -/

/-- The host's arrays; the four that the call is about. -/
abbrev arrays : Finset (DevRef τ sig) :=
  {dr main_arg0, dr main_arg1, dr main_arg2, dr main_arg3, dr main_arg4, dr main_arg5, dr main_v0, dr main_v1, dr main_v2, dr main_v3,
    dr main_v4, dr main_v5, dr main_v6}
abbrev four : Finset (DevRef τ sig) := {dr main_v2, dr main_arg1, dr main_arg2, dr main_v3}

theorem op0_sub : (op0 (F := F)).bufs ⊆ arrays :=
  show ({dr main_arg0} ∪ {dr main_v0} : Finset (DevRef τ sig)) ⊆ arrays by decide
theorem op1_sub : (op1 (F := F)).bufs ⊆ arrays :=
  show ({dr main_v0} ∪ {dr main_v1} : Finset (DevRef τ sig)) ⊆ arrays by decide
theorem op2_sub : (op2 (F := F)).bufs ⊆ arrays :=
  show ({dr main_v1} ∪ {dr main_v2} : Finset (DevRef τ sig)) ⊆ arrays by decide
theorem op4_sub : (op4 (F := F)).bufs ⊆ arrays :=
  show ({dr main_v3} ∪ {dr main_v4} : Finset (DevRef τ sig)) ⊆ arrays by decide
theorem op5_sub : (op5 (F := F)).bufs ⊆ arrays :=
  show ({dr main_v4} ∪ {dr main_v5} : Finset (DevRef τ sig)) ⊆ arrays by decide
theorem op6_sub : (op6 (F := F)).bufs ⊆ arrays :=
  show ({dr main_v5} ∪ {dr main_v6} : Finset (DevRef τ sig)) ⊆ arrays by decide

theorem unscoped_held (d : Dev nD) : (unscopedBufs d (fun b => m ((SparseCore.T d).loc b)) : sProp 𝕄) = held (T d) arrays (vals0 m d) := by
  unfold unscopedBufs held
  rw [show (Finset.univ.filter fun b : Ref sig .tc => ¬ b.isScoped)
      = {main_arg0, main_arg1, main_arg2, main_arg3, main_arg4, main_arg5, main_v0, main_v1, main_v2, main_v3, main_v4, main_v5, main_v6} by decide]
  unfold arrays
  iterate 12 rw [SparseCore.bigSep_insert' (by decide)]
  iterate 12 rw [SparseCore.bigSep_insert' (by decide)]
  rw [bigSep_singleton, bigSep_singleton]; rfl

omit [FloatOps F] in
theorem held_four (d : Dev nD) (W : Valuation τ sig (Elt F)) :
    (held (T d) four W : sProp 𝕄) = iprop((xLoc d ↦{fullShare} W (dr main_v2)) ∗ (uLoc d ↦{fullShare} W (dr main_arg1))
      ∗ (wLoc d ↦{fullShare} W (dr main_arg2)) ∗ (oLoc d ↦{fullShare} W (dr main_v3))) := by
  unfold held four
  rw [SparseCore.bigSep_insert' (by decide), SparseCore.bigSep_insert' (by decide), SparseCore.bigSep_insert' (by decide), bigSep_singleton]

theorem four_sub : (four : Finset (DevRef τ sig)) ⊆ arrays := by decide

/-- What the call takes, and gives back. -/
theorem st0_eq (d : Dev nD) : (bigSep Finset.univ fun c : Fin ((K (F := F)).nCore 0) => (P m).st 0 d c) = (held (T d) four (vals3 m d) : sProp 𝕄) := by
  rw [held_four]
  exact tiles_eq d _ _ _ _
theorem dn0_eq (d : Dev nD) : (bigSep Finset.univ fun c : Fin ((K (F := F)).nCore 0) => (P m).dn 0 d c) = (held (T d) four (vals4 m d) : sProp 𝕄) := by
  rw [held_four]
  refine (tiles_eq d _ _ _ _).trans ?_
  unfold vals4
  rw [Function.update_self, Function.update_of_ne (show dr main_v2 ≠ dr main_v3 by decide), Function.update_of_ne (show dr main_arg1 ≠ dr main_v3 by decide),
    Function.update_of_ne (show dr main_arg2 ≠ dr main_v3 by decide)]

theorem rest_eq (d : Dev nD) : (held (T d) (arrays \ four) (vals3 m d) : sProp 𝕄) = held (T d) (arrays \ four) (vals4 m d) :=
  held_congr (T d) fun b hb => (Function.update_of_ne (fun e => (Finset.mem_sdiff.mp hb).2 (by rw [e]; decide)) _ _).symm

abbrev FIN (d : Dev nD) : sProp 𝕄 := held (T d) arrays (vals7 m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op0) (S := arrays) op0_sub (V := vals0 m d)) $$ [Hb Hheld]
  · isplitl [Hb] <;> iassumption
  iintro ⟨Hb, Hheld⟩
  rw [wp_ret]; imodintro
  iapply (wp_hlo_within 𝒱 (SparseCore.T d) none Set.univ (op := op1) (S := arrays) op1_sub (V := op0.result (vals0 m d))) $$ [Hb Hheld]
  · isplitl [Hb] <;> iassumption
  iintro ⟨Hb, Hheld⟩
  rw [wp_ret]; imodintro
  iapply (wp_hlo_within 𝒱 (SparseCore.T d) none Set.univ (op := op2) (S := arrays) op2_sub (V := op1.result (op0.result (vals0 m d)))) $$ [Hb Hheld]
  · isplitl [Hb] <;> iassumption
  iintro ⟨Hb, Hheld⟩
  rw [wp_ret]; imodintro
  ihave Hh := (show held (T d) arrays (op2.result (op1.result (op0.result (vals0 m d)))) ⊢ (iprop(held (T d) four (vals3 m d) ∗ held (T d) (arrays \ four) (vals3 m d)) : sProp 𝕄)
    from Entails.of_eq (held_sub_split (T d) four_sub (vals3 m d))) $$ Hheld
  icases Hh with ⟨H4, Hrest⟩
  iapply ((K (F := F)).wp_run (D (F := F)) 𝒱 (EH := EH) (P := P m) κ d 0) $$ [Hst H4 Hb Hrest Hts]
  isplitr; · iexact Hctx
  isplitl [Hst]; · iexact Hst
  isplitl [H4]; · rw [st0_eq]; iexact H4
  iintro ⟨Hst, Hdn⟩
  ihave H4 := (Entails.of_eq (dn0_eq m d)) $$ Hdn
  ihave Hr := (Entails.of_eq (rest_eq m d)) $$ Hrest
  ihave Hheld := (Entails.of_eq (held_sub_split (T d) four_sub (vals4 m d)).symm) $$ [H4 Hr]
  · isplitl [H4] <;> iassumption
  iapply (wp_hlo_within 𝒱 (SparseCore.T d) none Set.univ (op := op4) (S := arrays) op4_sub (V := vals4 m d)) $$ [Hb Hheld]
  · isplitl [Hb] <;> iassumption
  iintro ⟨Hb, Hheld⟩
  rw [wp_ret]; imodintro
  iapply (wp_hlo_within 𝒱 (SparseCore.T d) none Set.univ (op := op5) (S := arrays) op5_sub (V := op4.result (vals4 m d))) $$ [Hb Hheld]
  · isplitl [Hb] <;> iassumption
  iintro ⟨Hb, Hheld⟩
  rw [wp_ret]; imodintro
  iapply (wp_hlo_within 𝒱 (SparseCore.T d) none Set.univ (op := op6) (S := arrays) op6_sub (V := op5.result (op4.result (vals4 m d)))) $$ [Hb Hheld]
  · isplitl [Hb] <;> iassumption
  iintro ⟨Hb, Hheld⟩
  rw [wp_ret]; imodintro; imodintro
  isplitl [Hst]; · iexact Hst
  isplitr [Hb Hts]
  · iexact Hheld
  isplitl [Hb] <;> iassumption

/-! ## The end -/

/-- Every array of the host is at its last value. -/
def fq (d : Dev nD) (s' : Phys nD τ sig (Elt F)) : Prop := ∀ b ∈ arrays, s'.mem.mem (d, b) = vals7 m d b

theorem hfin (d : Dev nD) (s' : Phys nD τ sig (Elt F)) : iprop(FIN m d ∗ SI s') ⊢ (⌜fq m d s'⌝ : sProp 𝕄) := by
  unfold fq
  refine (forall_intro fun b => ?_).trans pure_forall.2
  by_cases hb : b ∈ arrays
  · refine BI.Entails.trans ?_ (pure_mono fun h _ => h)
    unfold FIN held
    rw [SparseCore.bigSep_erase' hb]
    show _ ⊢ (⌜s'.mem.mem (d, b) = vals7 m d b⌝ : sProp 𝕄)
    iintro ⟨⟨Hx, -⟩, HSI⟩
    ihave H := (SI_pointsTo_agree (st := s') (ℓ := ((d, b) : Loc nD τ sig)) (I := Finset.univ) (q := fullShare) (f := vals7 m d b)) $$ [HSI Hx]
    · isplitl [HSI] <;> iassumption
    icases H with %hx
    ipureintro; exact funext fun i => hx i (Finset.mem_univ i)
  · iintro -
    ipureintro; exact fun h => absurd h hb

def QC : PUnit × MemSt nD τ sig (Elt F) → Prop := fun r => (∀ (d : Dev nD), ∀ b ∈ arrays, r.2.mem (d, b) = vals7 m d b) ∧ r.2.sem = fun _ => 0

theorem run_main [∀ e, Nonempty (Elt F e)] (hpre : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Tile

end
-- ==== Proof.Layout.lean ====
/-
  What the kernel's result holds, point by point, in terms of the arguments.

  The host lays the coordinates out flat (blocks of 128 first coordinates and 128 second coordinates by turns) and lays the flat result
  out again the other way. So the result at point `p` of batch `b`, component `k`, is the interpolated value at that point of the table
  that `k` names (`result_apply`), and the call reads the very coordinates of `x`
  (`vals3_flat`).
-/
module

public import proofs.«01_k».proof.Proof.Launch
public import Idealize.ShloMosaic.Lib.Pointwise

@[expose] public section

noncomputable section

namespace Cert.Proof.Tile

open Cert.KernelIdeal Cert.KernelIdeal.Gen Cert.Proof.Offsets Cert.Proof.Interp
open Idealize.ShloMosaic Idealize.ShloMosaic.StableHlo

variable {F : FTy → Type} [FloatOps F]

/-! ## The layout operations alone -/

/-- The flat coordinates of an array of points. -/
def flatten (x : S16x8192x2.Idx → F .f32) : S262144.Idx → F .f32 :=
  shapeCast S262144 (transpose S16x64x2x128 [0, 1, 3, 2] (shapeCast S16x64x128x2 x shapeCasts_S16x8192x2_S16x64x128x2)
    transposes_S16x64x128x2_S16x64x2x128_0_1_3_2) shapeCasts_S16x64x2x128_S262144

/-- An array of points of flat coordinates. -/
def unflatten (y : S262144.Idx → F .f32) : S16x8192x2.Idx → F .f32 :=
  shapeCast S16x8192x2 (transpose S16x64x128x2 [0, 1, 3, 2] (shapeCast S16x64x2x128 y shapeCasts_S262144_S16x64x2x128)
    transposes_S16x64x2x128_S16x64x128x2_0_1_3_2) shapeCasts_S16x64x128x2_S16x8192x2

set_option maxRecDepth 16384 in
theorem flatten_apply (x : S16x8192x2.Idx → F .f32) (n : Fin 262144) (b : Fin 16) (p : Fin 8192) (k : Fin 2)
    (hb : b.val = n.val / 16384) (hp : p.val = n.val / 256 % 64 * 128 + n.val % 128) (hk : k.val = n.val / 128 % 2) :
    flatten x (ix1 n) = x (ix3 b p k) := by
  pointwise [flatten]
  congr 1
  exact congr (congr (congrArg ix3 (Fin.ext hb.symm)) (Fin.ext hp.symm)) (Fin.ext hk.symm)

set_option maxRecDepth 16384 in
theorem unflatten_apply (y : S262144.Idx → F .f32) (b : Fin 16) (p : Fin 8192) (k : Fin 2) (n : Fin 262144)
    (hn : n.val = b.val * 16384 + p.val / 128 * 256 + k.val * 128 + p.val % 128) :
    unflatten y (ix3 b p k) = y (ix1 n) := by
  pointwise [unflatten]
  congr 1
  exact congrArg ix1 (Fin.ext hn.symm)

/-! ## The arrays of the run -/

variable (m : (ℓ : Loc nD τ sig) → Buf (Elt F) ℓ)

theorem vals3_flat (d : Dev nD) : vals3 m d (dr main_v2) = flatten (vals0 m d (dr main_arg0)) := by
  unfold vals3 op0 op1 op2 flatten
  after_results
  rfl

theorem vals3_arg (d : Dev nD) (r : Ref sig .tc) (h0 : r ≠ main_v0) (h1 : r ≠ main_v1) (h2 : r ≠ main_v2) :
    vals3 m d (dr r) = m ((d.tc : Thread nD τ).loc r) := by
  unfold vals3 op0 op1 op2
  rw [reshape_result_ne (h := h2), unary_result_ne (h := h1), reshape_result_ne (h := h0)]
  rfl

theorem vals7_arg (d : Dev nD) (r : Ref sig .tc) (h0 : r ≠ main_v0) (h1 : r ≠ main_v1) (h2 : r ≠ main_v2) (h3 : r ≠ main_v3) (h4 : r ≠ main_v4)
    (h5 : r ≠ main_v5) (h6 : r ≠ main_v6) : vals7 m d (dr r) = m ((d.tc : Thread nD τ).loc r) := by
  unfold vals7 op4 op5 op6
  rw [reshape_result_ne (h := h6), unary_result_ne (h := h5), reshape_result_ne (h := h4)]
  unfold vals4
  rw [Function.update_of_ne (devRef_ne_of_ne h3), vals3_arg m d r h0 h1 h2]

theorem vals7_result (d : Dev nD) : vals7 m d (dr main_v6) = unflatten (flatOf m d) := by
  unfold vals7 op4 op5 op6 unflatten
  after_results
  unfold vals4
  rw [Function.update_self]
  rfl

/-- The square of every flat coordinate is one of the grid's when that of every coordinate of `x` is. -/
theorem inRange_of (h : ∀ (d : Dev nD) (b : Fin 16) (p : Fin 8192) (k : Fin 2),
    (cell (F := F) (vals0 m d (dr main_arg0) (ix3 b p k))).toNat < 128) : InRange m := by
  intro d n
  rw [vals3_flat, eq_ix1 n]
  have hn : (n 0).val < 262144 := (n 0).isLt
  rw [flatten_apply (vals0 m d (dr main_arg0)) (n 0) ⟨(n 0).val / 16384, by omega⟩ ⟨(n 0).val / 256 % 64 * 128 + (n 0).val % 128, by omega⟩
    ⟨(n 0).val / 128 % 2, by omega⟩ rfl rfl rfl]
  exact h d _ _ _

/-- THE RESULT, POINT BY POINT: component `k` at point `p` of batch `b` is the value at that point, interpolated in the first table for
    `k = 0`, in the second for `k = 1`. -/
theorem result_apply (d : Dev nD) (b : Fin 16) (p : Fin 8192) (k : Fin 2) :
    vals7 m d (dr main_v6) (ix3 b p k)
      = val (if k = 1 then vals0 m d (dr main_arg2) else vals0 m d (dr main_arg1))
          (vals0 m d (dr main_arg0) (ix3 b p 0)) (vals0 m d (dr main_arg0) (ix3 b p 1)) := by
  have hb := b.isLt
  have hp := p.isLt
  have hk := k.isLt
  rw [vals7_result]
  rw [unflatten_apply (flatOf m d) b p k ⟨b.val * 16384 + p.val / 128 * 256 + k.val * 128 + p.val % 128, by omega⟩ rfl]
  unfold flatOf flat
  rw [vals3_flat, vals3_arg m d main_arg1 (by decide) (by decide) (by decide), vals3_arg m d main_arg2 (by decide) (by decide) (by decide)]
  simp only [ix1_0]
  have hsel : isHi (b.val * 16384 + p.val / 128 * 256 + k.val * 128 + p.val % 128) = decide (k = 1) := by
    unfold isHi
    rw [Bool.eq_iff_iff, beq_iff_eq, decide_eq_true_iff, Fin.ext_iff]
    show _ ↔ k.val = 1
    omega
  have hlo : at1 (lo (b.val * 16384 + p.val / 128 * 256 + k.val * 128 + p.val % 128))
      = ix1 (n0 := 262144) ⟨b.val * 16384 + p.val / 128 * 256 + p.val % 128, by omega⟩ := by
    funext a; obtain rfl : a = 0 := Subsingleton.elim _ _
    apply Fin.ext
    show lo _ % 262144 = b.val * 16384 + p.val / 128 * 256 + p.val % 128
    unfold lo; omega
  have hhi : at1 (hi (b.val * 16384 + p.val / 128 * 256 + k.val * 128 + p.val % 128))
      = ix1 (n0 := 262144) ⟨b.val * 16384 + p.val / 128 * 256 + 128 + p.val % 128, by omega⟩ := by
    funext a; obtain rfl : a = 0 := Subsingleton.elim _ _
    apply Fin.ext
    show hi _ % 262144 = b.val * 16384 + p.val / 128 * 256 + 128 + p.val % 128
    unfold hi lo; omega
  have hx : flatten (vals0 m d (dr main_arg0)) (at1 (lo (b.val * 16384 + p.val / 128 * 256 + k.val * 128 + p.val % 128)))
      = vals0 m d (dr main_arg0) (ix3 b p 0) := by
    rw [hlo]
    exact flatten_apply _ _ b p 0 (by dsimp only; omega) (by dsimp only; omega) (by show 0 = _; dsimp only; omega)
  have hy : flatten (vals0 m d (dr main_arg0)) (at1 (hi (b.val * 16384 + p.val / 128 * 256 + k.val * 128 + p.val % 128)))
      = vals0 m d (dr main_arg0) (ix3 b p 1) := by
    rw [hhi]
    exact flatten_apply _ _ b p 1 (by dsimp only; omega) (by dsimp only; omega) (by show 1 = _; dsimp only; omega)
  have hw : (if isHi (b.val * 16384 + p.val / 128 * 256 + k.val * 128 + p.val % 128) then vals0 m d (dr main_arg2) else vals0 m d (dr main_arg1))
      = if k = 1 then vals0 m d (dr main_arg2) else vals0 m d (dr main_arg1) := by
    simp only [hsel, decide_eq_true_eq]
  rw [← hx, ← hy, ← hw]
  rfl

end Cert.Proof.Tile

end
-- ==== Proof.Range.lean ====
/-
  What the preconditions say of the coordinates: each one's square lies in the 128 by 128 grid, as an unsigned number too.

  Both preconditions compare the square's signed number with 0 and with 128. `cells_in_range` returns one bit for each coordinate;
  `on_the_mesh` takes the conjunction of those bits first of all.
-/
module

public import proofs.«01_k».proof.Proof.Layout
public import proofs.«01_k».proof.Proof.Gen.Pre_cells_in_range
public import proofs.«01_k».proof.Proof.Gen.Pre_on_the_mesh
public import Idealize.ShloMosaic.Lib.ReduceAll

@[expose] public section

noncomputable section

namespace Cert.Proof.Range

open Cert.Proof.Interp
open Idealize.ShloMosaic

variable {F : FTy → Type} [FloatOps F]

/-- A word that tests at least 0 and less than 128, signed, is less than 128 unsigned. -/
theorem toNat_lt_of_tests (w : BitVec 32) (h : IntOp.andi (IntOp.cmpi .sge w 0#32) (IntOp.cmpi .slt w 128#32) = 1#1) : w.toNat < 128 := by
  obtain ⟨h0, h1⟩ := IntOp.andi_eq_one.1 h
  rw [IntOp.cmpi_sge] at h0; rw [IntOp.cmpi_slt] at h1
  have e0 : (0#32 : BitVec 32).toInt = 0 := by decide
  have e1 : (128#32 : BitVec 32).toInt = 128 := by decide
  rw [e0] at h0; rw [e1] at h1
  rw [BitVec.toInt_eq_toNat_cond] at h0 h1
  have := w.isLt
  split at h0 <;> omega

/-- `cells_in_range`, read at a coordinate. -/
theorem of_cells_in_range (x : FVec F Cert.Pre_cells_in_range.S16x8192x2 .f32) (x1 x2 : FVec F Cert.Pre_cells_in_range.S16641 .f32)
    (x3 : FVec F Cert.Pre_cells_in_range.S32768x2x2 .f32) (x4 : FVec F Cert.Pre_cells_in_range.S32768x2 .f32)
    (x5 : IVec Cert.Pre_cells_in_range.S32768x3 32)
    (h : Cert.Pre_cells_in_range.fn (F := F) x x1 x2 x3 x4 x5 = fun _ => 1#1) (i : Cert.Pre_cells_in_range.S16x8192x2.Idx) :
    (cell (x i)).toNat < 128 :=
  toNat_lt_of_tests _ (congrFun h i)

end Cert.Proof.Range

end
-- ==== Proof.Mesh.lean ====
/-
  What the precondition `on_the_mesh` says, triangle by triangle.

  Triangle `v` is the lower (`u = 0`) or the upper (`u = 1`) half of the square in column `i`, row `j`, where `v = 2 (128 j + i) + u`.
  The precondition computes `u`, `i` and `j` from `v` by shifts and masks, and asks that the tables of inverse matrices, anchors and
  corner numbers hold what that triangle has. `read` takes the conjunction apart.
-/
module

public import proofs.«01_k».proof.Proof.Range
public import Idealize.ShloMosaic.Lib.Pointwise

@[expose] public section

noncomputable section

namespace Cert.Proof.Mesh

open Cert.Pre_on_the_mesh Cert.Pre_on_the_mesh.Gen Cert.Proof.Interp
open Idealize.ShloMosaic

variable {F : FTy → Type} [FloatOps F]

/-- Which half of its square triangle `v` is, and the square's column and row, as the precondition computes them. -/
def half (v : Fin 32768) : BitVec 32 := IntOp.andi (BitVec.ofNat 32 v.val) 1#32
def col (v : Fin 32768) : BitVec 32 := IntOp.andi (IntOp.shrsi .host (BitVec.ofNat 32 v.val) 1#32) 127#32
def row (v : Fin 32768) : BitVec 32 := IntOp.shrsi .host (BitVec.ofNat 32 v.val) 8#32
/-- The number of the square's lower left corner. -/
def corner (v : Fin 32768) : BitVec 32 := row v * 129#32 + col v
/-- The diagonal entry of the inverse matrix: minus 128 for an upper half, 128 for a lower one. -/
def side (v : Fin 32768) : F .f32 :=
  Scalar.select (IntOp.cmpi .eq (half v) 1#32) (Scalar.ofBits .f32 0xC3000000#32) (Scalar.ofBits .f32 0x43000000#32)

/-- What the precondition asks of the tables at triangle `v`. -/
structure At (x3 : FVec F S32768x2x2 .f32) (x4 : FVec F S32768x2 .f32) (x5 : IVec S32768x3 32) (v : Fin 32768) : Prop where
  m00 : FloatOps.cmpf .oeq (x3 (ix3 v 0 0)) (side v) = 1#1
  m01 : FloatOps.cmpf .oeq (x3 (ix3 v 0 1)) (Scalar.ofBits .f32 0x00000000#32) = 1#1
  m10 : FloatOps.cmpf .oeq (x3 (ix3 v 1 0)) (Scalar.ofBits .f32 0x00000000#32) = 1#1
  m11 : FloatOps.cmpf .oeq (x3 (ix3 v 1 1)) (side v) = 1#1
  a0 : FloatOps.cmpf .oeq (x4 (ix2 v 0)) (FloatOps.mulf (FloatOps.sitofp .f32 (col v + half v)) (Scalar.ofBits .f32 0x3C000000#32)) = 1#1
  a1 : FloatOps.cmpf .oeq (x4 (ix2 v 1)) (FloatOps.mulf (FloatOps.sitofp .f32 (row v + half v)) (Scalar.ofBits .f32 0x3C000000#32)) = 1#1
  d0 : x5 (ix2 v 0) = Scalar.select (IntOp.cmpi .eq (half v) 1#32) (corner v + 130#32) (corner v)
  d1 : x5 (ix2 v 1) = Scalar.select (IntOp.cmpi .eq (half v) 1#32) (corner v + 129#32) (corner v + 1#32)
  d2 : x5 (ix2 v 2) = Scalar.select (IntOp.cmpi .eq (half v) 1#32) (corner v + 1#32) (corner v + 129#32)

instance : Subsingleton S_.Idx := inferInstanceAs (Subsingleton ((a : Fin 0) → Fin _))

/-! The sliced columns of the tables, read at a triangle. -/

theorem minv00 (y : FVec F S32768x2x2 .f32) (v : Fin 32768) :
    shapeCast S32768 (extractStridedSlice S32768x1x1 ![0, 0, 0] y slices_S32768x2x2_S32768x1x1_0_0_0) shapeCasts_S32768x1x1_S32768 (ix1 v)
      = y (ix3 v 0 0) := by
  pointwise []
theorem minv01 (y : FVec F S32768x2x2 .f32) (v : Fin 32768) :
    shapeCast S32768 (extractStridedSlice S32768x1x1 ![0, 0, 1] y slices_S32768x2x2_S32768x1x1_0_0_1) shapeCasts_S32768x1x1_S32768 (ix1 v)
      = y (ix3 v 0 1) := by
  pointwise []
theorem minv10 (y : FVec F S32768x2x2 .f32) (v : Fin 32768) :
    shapeCast S32768 (extractStridedSlice S32768x1x1 ![0, 1, 0] y slices_S32768x2x2_S32768x1x1_0_1_0) shapeCasts_S32768x1x1_S32768 (ix1 v)
      = y (ix3 v 1 0) := by
  pointwise []
theorem minv11 (y : FVec F S32768x2x2 .f32) (v : Fin 32768) :
    shapeCast S32768 (extractStridedSlice S32768x1x1 ![0, 1, 1] y slices_S32768x2x2_S32768x1x1_0_1_1) shapeCasts_S32768x1x1_S32768 (ix1 v)
      = y (ix3 v 1 1) := by
  pointwise []
theorem anchor0 (y : FVec F S32768x2 .f32) (v : Fin 32768) :
    shapeCast S32768 (extractStridedSlice S32768x1 ![0, 0] y slices_S32768x2_S32768x1_0_0) shapeCasts_S32768x1_S32768 (ix1 v) = y (ix2 v 0) := by
  pointwise []
theorem anchor1 (y : FVec F S32768x2 .f32) (v : Fin 32768) :
    shapeCast S32768 (extractStridedSlice S32768x1 ![0, 1] y slices_S32768x2_S32768x1_0_1) shapeCasts_S32768x1_S32768 (ix1 v) = y (ix2 v 1) := by
  pointwise []
theorem number0 (y : IVec S32768x3 32) (v : Fin 32768) :
    shapeCast S32768 (extractStridedSlice S32768x1 ![0, 0] y slices_S32768x3_S32768x1_0_0) shapeCasts_S32768x1_S32768 (ix1 v) = y (ix2 v 0) := by
  pointwise []
theorem number1 (y : IVec S32768x3 32) (v : Fin 32768) :
    shapeCast S32768 (extractStridedSlice S32768x1 ![0, 1] y slices_S32768x3_S32768x1_0_1) shapeCasts_S32768x1_S32768 (ix1 v) = y (ix2 v 1) := by
  pointwise []
theorem number2 (y : IVec S32768x3 32) (v : Fin 32768) :
    shapeCast S32768 (extractStridedSlice S32768x1 ![0, 2] y slices_S32768x3_S32768x1_0_2) shapeCasts_S32768x1_S32768 (ix1 v) = y (ix2 v 2) := by
  pointwise []

/-- The precondition, taken apart: every coordinate's square is in the grid, and every triangle's tables are the grid's. -/
theorem read (x : FVec F S16x8192x2 .f32) (x1 x2 : FVec F S16641 .f32) (x3 : FVec F S32768x2x2 .f32) (x4 : FVec F S32768x2 .f32)
    (x5 : IVec S32768x3 32) (h : fn (F := F) x x1 x2 x3 x4 x5 = fun _ => 1#1) :
    (∀ i, (cell (x i)).toNat < 128) ∧ ∀ v, At x3 x4 x5 v := by
  obtain ⟨h, hd2⟩ := IntOp.andi_eq_one.1 (show IntOp.andi _ _ = 1#1 from congrFun h (fun a => a.elim0))
  obtain ⟨h, hd1⟩ := IntOp.andi_eq_one.1 (show IntOp.andi _ _ = 1#1 from h)
  obtain ⟨h, hd0⟩ := IntOp.andi_eq_one.1 (show IntOp.andi _ _ = 1#1 from h)
  obtain ⟨h, ha1⟩ := IntOp.andi_eq_one.1 (show IntOp.andi _ _ = 1#1 from h)
  obtain ⟨h, ha0⟩ := IntOp.andi_eq_one.1 (show IntOp.andi _ _ = 1#1 from h)
  obtain ⟨h, hm11⟩ := IntOp.andi_eq_one.1 (show IntOp.andi _ _ = 1#1 from h)
  obtain ⟨h, hm10⟩ := IntOp.andi_eq_one.1 (show IntOp.andi _ _ = 1#1 from h)
  obtain ⟨h, hm01⟩ := IntOp.andi_eq_one.1 (show IntOp.andi _ _ = 1#1 from h)
  obtain ⟨h, hm00⟩ := IntOp.andi_eq_one.1 (show IntOp.andi _ _ = 1#1 from h)
  refine ⟨fun i => Range.toNat_lt_of_tests _ (Host.reduce_andi_all _ _ _ _ _ h i), fun v => ?_⟩
  exact {
    m00 := (congrArg (fun q => FloatOps.cmpf .oeq q _) (minv00 x3 v)).symm.trans (Host.reduce_andi_all _ _ _ _ _ hm00 (ix1 v))
    m01 := (congrArg (fun q => FloatOps.cmpf .oeq q _) (minv01 x3 v)).symm.trans (Host.reduce_andi_all _ _ _ _ _ hm01 (ix1 v))
    m10 := (congrArg (fun q => FloatOps.cmpf .oeq q _) (minv10 x3 v)).symm.trans (Host.reduce_andi_all _ _ _ _ _ hm10 (ix1 v))
    m11 := (congrArg (fun q => FloatOps.cmpf .oeq q _) (minv11 x3 v)).symm.trans (Host.reduce_andi_all _ _ _ _ _ hm11 (ix1 v))
    a0 := (congrArg (fun q => FloatOps.cmpf .oeq q _) (anchor0 x4 v)).symm.trans (Host.reduce_andi_all _ _ _ _ _ ha0 (ix1 v))
    a1 := (congrArg (fun q => FloatOps.cmpf .oeq q _) (anchor1 x4 v)).symm.trans (Host.reduce_andi_all _ _ _ _ _ ha1 (ix1 v))
    d0 := (number0 x5 v).symm.trans (IntOp.cmpi_eq.1 (Host.reduce_andi_all _ _ _ _ _ hd0 (ix1 v)))
    d1 := (number1 x5 v).symm.trans (IntOp.cmpi_eq.1 (Host.reduce_andi_all _ _ _ _ _ hd1 (ix1 v)))
    d2 := (number2 x5 v).symm.trans (IntOp.cmpi_eq.1 (Host.reduce_andi_all _ _ _ _ _ hd2 (ix1 v))) }

end Cert.Proof.Mesh

end
-- ==== Proof.Exact.lean ====
/-
  One point, over the extended reals.

  A coordinate whose square lies in the grid is a real number, because both infinities convert to a square outside it (`real`). For such
  a coordinate rounding down, converting and clipping to `[0, 127]` gives the square that converting alone gives (`clip_floor`): the
  two ways differ only between -1 and 0, where the clip brings the -1 back to 0. And the distance from the triangle's anchor times
  the inverse matrix's entry is the fraction (`lower`) or what is left to the square's other side (`upper_eq`).
-/
module

public import proofs.«01_k».proof.Proof.Mesh
public import Idealize.ShloMosaic.PureOps.Ideal
public import Idealize.ShloMosaic.Lib.IdealHost

@[expose] public section

noncomputable section

namespace Cert.Proof.Exact

open Cert.Proof.Interp
open Idealize.ShloMosaic

/-! ## The constants -/

theorem c128 : (Scalar.ofBits .f32 0x43000000#32 : Ideal .f32) = ((128 : ℝ) : EReal) := by
  show Ideal.ofBits .f32 0x43000000#32 = _
  simp [Ideal.ofBits, Ideal.ieee, -EReal.coe_mul]; norm_num
theorem cNeg128 : (Scalar.ofBits .f32 0xC3000000#32 : Ideal .f32) = ((-128 : ℝ) : EReal) := by
  show Ideal.ofBits .f32 0xC3000000#32 = _
  simp [Ideal.ofBits, Ideal.ieee, -EReal.coe_mul, -EReal.coe_neg]; norm_num
theorem c128th : (Scalar.ofBits .f32 0x3C000000#32 : Ideal .f32) = ((1 / 128 : ℝ) : EReal) := by
  show Ideal.ofBits .f32 0x3C000000#32 = _
  simp [Ideal.ofBits, Ideal.ieee, -EReal.coe_mul]; norm_num
theorem c0 : (Scalar.ofBits .f32 0x00000000#32 : Ideal .f32) = (0 : EReal) := Ideal.ofBits_zero_f32
theorem one_eq : (one : Ideal .f32) = ((1 : ℝ) : EReal) := Ideal.ofBits_one_f32

theorem scaled_coe (r : ℝ) : scaled (F := Ideal) (r : EReal) = ((r * 128 : ℝ) : EReal) := by
  show (r : EReal) * (Scalar.ofBits .f32 0x43000000#32 : Ideal .f32) = _
  rw [c128, ← EReal.coe_mul]

/-! ## The square of a coordinate -/

/-- The conversion's integer: toward zero, held to the words' range. -/
def toward (s : ℝ) : Int := max (-2147483648) (min 2147483647 (if 0 ≤ s then ⌊s⌋ else ⌈s⌉))

theorem fptosi_coe (s : ℝ) : (FloatOps.fptosi (F := Ideal) (φ := .f32) 32 (s : EReal) : BitVec 32) = BitVec.ofInt 32 (toward s) := by
  show Ideal.fptosi 32 (s : EReal) = _
  unfold Ideal.fptosi toward
  rw [Ideal.toIntClamped_coe]; norm_num

theorem cell_coe (r : ℝ) : cell (F := Ideal) (r : EReal) = BitVec.ofInt 32 (toward (r * 128)) := by
  unfold cell; rw [scaled_coe]; exact fptosi_coe _

theorem cell_toInt (r : ℝ) : (cell (F := Ideal) (r : EReal)).toInt = toward (r * 128) := by
  rw [cell_coe, BitVec.toInt_ofInt]
  unfold toward
  exact Int.bmod_eq_of_le (by norm_num) (by norm_num)

/-- A coordinate whose square lies in the grid is a real. -/
theorem real (a : Ideal .f32) (h : (cell a).toNat < 128) : ∃ r : ℝ, a = (r : EReal) := by
  have h' : (Ideal.fptosi 32 ((a : EReal) * ((128 : ℝ) : EReal))).toNat < 128 := by
    rw [← c128]; exact h
  induction a using EReal.rec with
  | coe r => exact ⟨r, rfl⟩
  | bot =>
    rw [EReal.bot_mul_coe_of_pos (by norm_num)] at h'
    exact absurd h' (by decide)
  | top =>
    rw [EReal.top_mul_coe_of_pos (by norm_num)] at h'
    exact absurd h' (by decide)

/-- Clipped to the grid, as the reference clips. -/
def clip (w : BitVec 32) : BitVec 32 := IntOp.minsi 127#32 (IntOp.maxsi 0#32 w)

theorem clip_of_lt (w : BitVec 32) (h : w.toNat < 128) : clip w = w := by
  have e : w = BitVec.ofNat 32 w.toNat := by simp
  rw [e]
  generalize w.toNat = n at h
  revert n
  decide

theorem clip_floor (r : ℝ) (h : (cell (F := Ideal) (r : EReal)).toNat < 128) :
    clip (FloatOps.fptosi (F := Ideal) (φ := .f32) 32 (Ideal.liftRound Int.floor (scaled (F := Ideal) (r : EReal)))) = cell (F := Ideal) (r : EReal) := by
  have hi := cell_toInt r
  rw [scaled_coe, Ideal.liftRound_coe, fptosi_coe]
  by_cases hs : 0 ≤ r * 128
  · have : toward ((⌊r * 128⌋ : ℝ)) = toward (r * 128) := by
      unfold toward
      rw [if_pos (by exact_mod_cast Int.floor_nonneg.2 hs), if_pos hs, Int.floor_intCast]
    rw [this, ← cell_coe]; exact clip_of_lt _ h
  · have hn : (cell (F := Ideal) (r : EReal)).toInt = (cell (F := Ideal) (r : EReal)).toNat := by
      rw [BitVec.toInt_eq_toNat_of_lt]; omega
    have hs' : r * 128 < 0 := not_le.1 hs
    have hc : ⌈r * 128⌉ ≤ 0 := Int.ceil_le.2 (by exact_mod_cast hs'.le)
    have h0 : ⌈r * 128⌉ = 0 := by
      rw [hn] at hi; unfold toward at hi; rw [if_neg hs] at hi; omega
    have hf : ⌊r * 128⌋ = -1 := by
      have h1 : (-1 : ℝ) < r * 128 := by
        have := Int.ceil_lt_add_one (r * 128); rw [h0] at this; push_cast at this; linarith
      rw [Int.floor_eq_iff]; push_cast; constructor <;> linarith
    have hcell : cell (F := Ideal) (r : EReal) = 0#32 := by
      rw [cell_coe]; unfold toward; rw [if_neg hs, h0]; decide
    have ht : toward ((⌊r * 128⌋ : ℝ)) = -1 := by
      unfold toward
      rw [hf, if_neg (by norm_num)]; push_cast
      rw [show ⌈(-1 : ℝ)⌉ = -1 from by exact_mod_cast Int.ceil_intCast (R := ℝ) (-1 : ℤ)]; decide
    rw [ht, hcell]; decide

/-! ## Distances from the anchor -/

theorem sitofp_eq (w : BitVec 32) : (FloatOps.sitofp .f32 w : Ideal .f32) = ((w.toInt : ℝ) : EReal) := rfl

/-- In a lower triangle: the distance from the anchor, times 128, is the fraction. -/
theorem lower (r : ℝ) (A : EReal) (n : Int) (hA : A = (n : ℝ) * ((1 / 128 : ℝ) : EReal)) (hn : n = (cell (F := Ideal) (r : EReal)).toInt) :
    ((r : EReal) - A) * ((128 : ℝ) : EReal) = frac (F := Ideal) (r : EReal) := by
  show _ = scaled (F := Ideal) (r : EReal) - (FloatOps.sitofp .f32 (cell (F := Ideal) (r : EReal)) : Ideal .f32)
  rw [sitofp_eq, ← hn, scaled_coe, hA, ← EReal.coe_mul, ← EReal.coe_sub, ← EReal.coe_mul, ← EReal.coe_sub]
  congr 1; ring

/-- In an upper triangle: the distance from the anchor, times minus 128, is what is left to the square's other side. -/
theorem upper_eq (r : ℝ) (A : EReal) (n : Int) (hA : A = (n : ℝ) * ((1 / 128 : ℝ) : EReal)) (hn : n = (cell (F := Ideal) (r : EReal)).toInt + 1) :
    ((r : EReal) - A) * ((-128 : ℝ) : EReal) = far (F := Ideal) (r : EReal) := by
  show _ = ((FloatOps.sitofp .f32 (cell (F := Ideal) (r : EReal)) : Ideal .f32) + (one : Ideal .f32) : EReal) - scaled (F := Ideal) (r : EReal)
  rw [sitofp_eq, one_eq, scaled_coe, hA, hn, ← EReal.coe_mul, ← EReal.coe_sub, ← EReal.coe_mul, ← EReal.coe_add, ← EReal.coe_sub]
  congr 1; push_cast; ring

end Cert.Proof.Exact

end
-- ==== Proof.Triangle.lean ====
/-
  The number of the triangle a point lies in, as the reference computes it, and the tables' entries there.

  For a point in the grid the number is `2 (128 j + i) + u`, less than 32768 (`tri_toNat`). The half, column and row the precondition
  computes from that number are `u`, `i` and `j` again, so the tables at that triangle hold the corners' numbers the kernel computes
  (`number0`, `number1`, `number2`) and give the kernel's weights (`weight1`, `weight2`).
-/
module

public import proofs.«01_k».proof.Proof.Exact

@[expose] public section

noncomputable section

namespace Cert.Proof.Triangle

open Cert.Proof.Interp Cert.Proof.Mesh Cert.Proof.Exact
open Idealize.ShloMosaic

/-! ## The number -/

/-- The triangle's number. -/
def tri {F : FTy → Type} [FloatOps F] (a b : F .f32) : BitVec 32 := 2#32 * (cell b * 128#32 + cell a) + (upper a b).setWidth 32

section Number

variable {F : FTy → Type} [FloatOps F] {a b : F .f32} (ha : (cell a).toNat < 128) (hb : (cell b).toNat < 128)
include ha hb

theorem tri_toNat : (tri a b).toNat = 2 * ((cell b).toNat * 128 + (cell a).toNat) + (upper a b).toNat := by
  have hu := (upper a b).isLt
  unfold tri
  rw [BitVec.toNat_add, BitVec.toNat_mul, BitVec.toNat_add, BitVec.toNat_mul, BitVec.toNat_setWidth]
  simp only [BitVec.toNat_ofNat]; omega

theorem tri_lt : (tri a b).toNat < 32768 := by
  have hu := (upper a b).isLt
  rw [tri_toNat ha hb]; omega

/-- The triangle. -/
def at' : Fin 32768 := ⟨(tri a b).toNat, tri_lt ha hb⟩

theorem tri_toInt : (tri a b).toInt = (at' ha hb).val := by
  have := tri_lt ha hb
  rw [BitVec.toInt_eq_toNat_of_lt (by omega)]; rfl

theorem ofNat_at : BitVec.ofNat 32 (at' ha hb).val = tri a b := by
  unfold at'; simp

theorem half_at : half (at' ha hb) = (upper a b).setWidth 32 := by
  have hu := (upper a b).isLt
  unfold half; rw [ofNat_at]
  apply BitVec.eq_of_toNat_eq
  show ((tri a b) &&& 1#32).toNat = _
  rw [BitVec.toNat_and, tri_toNat ha hb, BitVec.toNat_setWidth]
  show _ &&& 1 = _
  rw [Nat.and_one_is_mod]; omega

theorem shift_toNat (n : Nat) (hn : n < 32) : (IntOp.shrsi .host (tri a b) (BitVec.ofNat 32 n)).toNat = (tri a b).toNat / 2 ^ n := by
  have h := tri_lt ha hb
  have en : (BitVec.ofNat 32 n).toNat = n := by rw [BitVec.toNat_ofNat]; omega
  unfold IntOp.shrsi
  rw [if_pos (by rw [en]; exact hn), BitVec.sshiftRight', en, BitVec.sshiftRight_eq_of_msb_false
    (by rw [BitVec.msb_eq_false_iff_two_mul_lt]; omega), BitVec.toNat_ushiftRight, Nat.shiftRight_eq_div_pow]

theorem row_at : row (at' ha hb) = cell b := by
  have hu := (upper a b).isLt
  unfold row; rw [ofNat_at]
  apply BitVec.eq_of_toNat_eq
  rw [shift_toNat ha hb 8 (by omega), tri_toNat ha hb]; omega

theorem col_at : col (at' ha hb) = cell a := by
  have hu := (upper a b).isLt
  unfold col; rw [ofNat_at]
  apply BitVec.eq_of_toNat_eq
  show (IntOp.shrsi .host (tri a b) 1#32 &&& 127#32).toNat = _
  rw [BitVec.toNat_and, shift_toNat ha hb 1 (by omega), tri_toNat ha hb]
  show _ &&& (2 ^ 7 - 1) = _
  rw [Nat.and_two_pow_sub_one_eq_mod]; omega

theorem corner_at : corner (at' ha hb) = base a b := by
  unfold corner base; rw [row_at ha hb, col_at ha hb]

theorem test_at : IntOp.cmpi .eq (half (at' ha hb)) 1#32 = upper a b := by
  rw [half_at ha hb]
  generalize upper a b = u
  revert u; decide

end Number

/-! ## The tables' entries -/

section Entries

variable {a b : Ideal .f32} (ha : (cell a).toNat < 128) (hb : (cell b).toNat < 128)
variable {x3 : FVec Ideal Cert.Pre_on_the_mesh.S32768x2x2 .f32} {x4 : FVec Ideal Cert.Pre_on_the_mesh.S32768x2 .f32}
  {x5 : IVec Cert.Pre_on_the_mesh.S32768x3 32} (hm : At x3 x4 x5 (at' ha hb))
include hm

theorem number0 : x5 (ix2 (at' ha hb) 0) = dof0 a b := by
  rw [hm.d0, test_at ha hb, corner_at ha hb]; rfl
theorem number1 : x5 (ix2 (at' ha hb) 1) = dof1 a b := by
  rw [hm.d1, test_at ha hb, corner_at ha hb]; rfl
theorem number2 : x5 (ix2 (at' ha hb) 2) = dof2 a b := by
  rw [hm.d2, test_at ha hb, corner_at ha hb]; rfl

omit hm in
/-- Equality tested on extended reals is equality. -/
theorem eq_of_test {p q : Ideal .f32} (h : FloatOps.cmpf .oeq p q = 1#1) : p = q := by
  have h' : BitVec.ofBool (decide (p = q)) = 1#1 := h
  by_contra hne
  rw [decide_eq_false hne] at h'
  exact absurd h' (by decide)

theorem m01 : x3 (ix3 (at' ha hb) 0 1) = (0 : EReal) := (eq_of_test hm.m01).trans c0
theorem m10 : x3 (ix3 (at' ha hb) 1 0) = (0 : EReal) := (eq_of_test hm.m10).trans c0

theorem axis {c M A : Ideal .f32} {w : BitVec 32} (hc : (cell c).toNat < 128) (hw : w = cell c)
    (hM : FloatOps.cmpf .oeq M (side (at' ha hb)) = 1#1)
    (hA : FloatOps.cmpf .oeq A (FloatOps.mulf (FloatOps.sitofp .f32 (w + half (at' ha hb))) (Scalar.ofBits .f32 0x3C000000#32)) = 1#1) :
    ((c : EReal) - (A : EReal)) * (M : EReal) = Scalar.select (upper a b) (far c) (frac c) := by
  have eM := eq_of_test hM
  have eA := eq_of_test hA
  subst hw
  obtain ⟨r, rfl⟩ := real c hc
  unfold side at eM
  rw [test_at ha hb, c128, cNeg128] at eM
  rw [half_at ha hb] at eA
  have eA' : (A : EReal) = (((cell (F := Ideal) (r : EReal) + (upper a b).setWidth 32).toInt : ℝ) : EReal) * ((1 / 128 : ℝ) : EReal) := by
    rw [← c128th]; exact eA
  have hi : (cell (F := Ideal) (r : EReal)).toInt = (cell (F := Ideal) (r : EReal)).toNat := by
    rw [BitVec.toInt_eq_toNat_of_lt]; omega
  by_cases hu : upper a b = 1#1
  · rw [hu] at eM eA' ⊢
    rw [show M = ((-128 : ℝ) : EReal) from eM]
    refine upper_eq r A _ eA' ?_
    have e1 : (BitVec.setWidth 32 1#1 : BitVec 32).toNat = 1 := by decide
    have e2 : (cell (F := Ideal) (r : EReal) + BitVec.setWidth 32 1#1).toNat = (cell (F := Ideal) (r : EReal)).toNat + 1 := by
      rw [BitVec.toNat_add, e1]; omega
    rw [BitVec.toInt_eq_toNat_of_lt (by omega), e2, hi]; push_cast; rfl
  · have hu0 : upper a b = 0#1 := by
      revert hu; generalize upper a b = u; revert u; decide
    rw [hu0] at eM eA' ⊢
    rw [show M = ((128 : ℝ) : EReal) from eM]
    refine lower r A _ eA' ?_
    rw [show (BitVec.setWidth 32 0#1 : BitVec 32) = 0#32 from by decide, BitVec.add_zero]

/-- The first coordinate's distance from the anchor, through the inverse matrix, is the first weight; likewise the second. -/
theorem weight1 : ((a : EReal) - (x4 (ix2 (at' ha hb) 0) : EReal)) * (x3 (ix3 (at' ha hb) 0 0) : EReal) = wgt1 a b :=
  axis ha hb hm ha (col_at ha hb) hm.m00 hm.a0
theorem weight2 : ((b : EReal) - (x4 (ix2 (at' ha hb) 1) : EReal)) * (x3 (ix3 (at' ha hb) 1 1) : EReal) = wgt2 a b :=
  axis ha hb hm hb (row_at ha hb) hm.m11 hm.a1

end Entries

end Cert.Proof.Triangle

end
-- ==== Proof.Gathers.lean ====
/-
  The reference's four gathers read at an index.

  Each takes rows of an array by one index per point: the row is the index read as a signed number and clamped to the array, the other
  coordinates of the result go through. The lemmas here say so for an index that is in the array, `idx = v`.
-/
module

public import proofs.«01_k».proof.Proof.Gen.ReferenceIdeal
public import Idealize.ShloMosaic.Lib.Pointwise

@[expose] public section

noncomputable section

namespace Cert.Proof.Ref

open Cert.ReferenceIdeal Cert.ReferenceIdeal.Gen
open Idealize.ShloMosaic

variable {α : Type}

/-- The inverse edge matrices. -/
theorem gather_minv (x : S32768x2x2.Idx → α) (idx : IVec S16x8192x1 32) (b : Fin 16) (p : Fin 8192) (k l : Fin 2) (v : Fin 32768)
    (h : (idx (ix3 b p 0)).toInt = v.val) :
    Host.gather gather_S32768x2x2_S16x8192x1_S16x8192x2x2_23_0_n_n_0_2_122 x idx (ix4 b p k l) = x (ix3 v k l) := by
  unfold Host.gather
  refine congrArg x (funext fun a => Fin.ext ?_)
  show GatherDims.start _ _ idx a + GatherDims.batchCoord _ _ a + GatherDims.offCoord _ _ a = _
  match a with
  | ⟨0, _⟩ =>
    have hsi : gather_S32768x2x2_S16x8192x1_S16x8192x2x2_23_0_n_n_0_2_122.siIdx (ix4 b p k l) ⟨List.idxOf (0 : Fin 3) [(0 : Fin 3)],
        List.idxOf_lt_length_iff.2 (List.mem_singleton.mpr rfl)⟩ = ix3 b p 0 := by
      funext c; refine Fin.ext ?_
      match c with
      | ⟨0, _⟩ => rfl
      | ⟨1, _⟩ => rfl
      | ⟨2, _⟩ => rfl
    have hv := v.isLt
    refine (congrArg (fun q => min (idx q).toInt.toNat 32767 + 0 + 0) hsi).trans ?_
    show min (idx (ix3 b p 0)).toInt.toNat 32767 + 0 + 0 = v.val
    rw [h]; omega
  | ⟨1, _⟩ => exact Nat.zero_add k.val
  | ⟨2, _⟩ => exact Nat.zero_add l.val

/-- The anchors. -/
theorem gather_anchor (x : S32768x2.Idx → α) (idx : IVec S16x8192x1 32) (b : Fin 16) (p : Fin 8192) (k : Fin 2) (v : Fin 32768)
    (h : (idx (ix3 b p 0)).toInt = v.val) :
    Host.gather gather_S32768x2_S16x8192x1_S16x8192x2_2_0_n_n_0_2_12 x idx (ix3 b p k) = x (ix2 v k) := by
  unfold Host.gather
  refine congrArg x (funext fun a => Fin.ext ?_)
  show GatherDims.start _ _ idx a + GatherDims.batchCoord _ _ a + GatherDims.offCoord _ _ a = _
  match a with
  | ⟨0, _⟩ =>
    have hsi : gather_S32768x2_S16x8192x1_S16x8192x2_2_0_n_n_0_2_12.siIdx (ix3 b p k) ⟨List.idxOf (0 : Fin 2) [(0 : Fin 2)],
        List.idxOf_lt_length_iff.2 (List.mem_singleton.mpr rfl)⟩ = ix3 b p 0 := by
      funext c; refine Fin.ext ?_
      match c with
      | ⟨0, _⟩ => rfl
      | ⟨1, _⟩ => rfl
      | ⟨2, _⟩ => rfl
    have hv := v.isLt
    refine (congrArg (fun q => min (idx q).toInt.toNat 32767 + 0 + 0) hsi).trans ?_
    show min (idx (ix3 b p 0)).toInt.toNat 32767 + 0 + 0 = v.val
    rw [h]; omega
  | ⟨1, _⟩ => exact Nat.zero_add k.val

/-- The corners' numbers. -/
theorem gather_corner (x : S32768x3.Idx → α) (idx : IVec S16x8192x1 32) (b : Fin 16) (p : Fin 8192) (k : Fin 3) (v : Fin 32768)
    (h : (idx (ix3 b p 0)).toInt = v.val) :
    Host.gather gather_S32768x3_S16x8192x1_S16x8192x3_2_0_n_n_0_2_13 x idx (ix3 b p k) = x (ix2 v k) := by
  unfold Host.gather
  refine congrArg x (funext fun a => Fin.ext ?_)
  show GatherDims.start _ _ idx a + GatherDims.batchCoord _ _ a + GatherDims.offCoord _ _ a = _
  match a with
  | ⟨0, _⟩ =>
    have hsi : gather_S32768x3_S16x8192x1_S16x8192x3_2_0_n_n_0_2_13.siIdx (ix3 b p k) ⟨List.idxOf (0 : Fin 2) [(0 : Fin 2)],
        List.idxOf_lt_length_iff.2 (List.mem_singleton.mpr rfl)⟩ = ix3 b p 0 := by
      funext c; refine Fin.ext ?_
      match c with
      | ⟨0, _⟩ => rfl
      | ⟨1, _⟩ => rfl
      | ⟨2, _⟩ => rfl
    have hv := v.isLt
    refine (congrArg (fun q => min (idx q).toInt.toNat 32767 + 0 + 0) hsi).trans ?_
    show min (idx (ix3 b p 0)).toInt.toNat 32767 + 0 + 0 = v.val
    rw [h]; omega
  | ⟨1, _⟩ => exact Nat.zero_add k.val

/-- The table's entries at the three corners. -/
theorem gather_table (x : S16641.Idx → α) (idx : IVec S16x8192x3x1 32) (b : Fin 16) (p : Fin 8192) (k : Fin 3) (v : Fin 16641)
    (h : (idx (ix4 b p k 0)).toInt = v.val) :
    Host.gather gather_S16641_S16x8192x3x1_S16x8192x3_n_0_n_n_0_3_1 x idx (ix3 b p k) = x (ix1 v) := by
  unfold Host.gather
  refine congrArg x (funext fun a => Fin.ext ?_)
  show GatherDims.start _ _ idx a + GatherDims.batchCoord _ _ a + GatherDims.offCoord _ _ a = _
  match a with
  | ⟨0, _⟩ =>
    have hsi : gather_S16641_S16x8192x3x1_S16x8192x3_n_0_n_n_0_3_1.siIdx (ix3 b p k) ⟨List.idxOf (0 : Fin 1) [(0 : Fin 1)],
        List.idxOf_lt_length_iff.2 (List.mem_singleton.mpr rfl)⟩ = ix4 b p k 0 := by
      funext c; refine Fin.ext ?_
      match c with
      | ⟨0, _⟩ => rfl
      | ⟨1, _⟩ => rfl
      | ⟨2, _⟩ => rfl
      | ⟨3, _⟩ => rfl
    have hv := v.isLt
    refine (congrArg (fun q => min (idx q).toInt.toNat 16640 + 0 + 0) hsi).trans ?_
    show min (idx (ix4 b p k 0)).toInt.toNat 16640 + 0 + 0 = v.val
    rw [h]; omega

end Cert.Proof.Ref

end
-- ==== Proof.RefValue.lean ====
/-
  What the reference computes, point by point, when the tables are the grid's.

  Over the extended reals, at point `p` of batch `b` with coordinates `a` and `c` in the grid: the reference's square is `cell`
  (`v10_at`, `v13_at`), its triangle is `tri` (`v27_at`), its corners are `dof0`, `dof1`, `dof2` (`v48_at`), its two weights are
  `wgt1` and `wgt2` (`v50_at`), and its result is `val` of each table (`result_at`).
-/
module

public import proofs.«01_k».proof.Proof.Triangle
public import proofs.«01_k».proof.Proof.Gathers
public import proofs.«01_k».proof.Proof.Gen.ReferenceIdeal.Run

@[expose] public section

noncomputable section

namespace Cert.Proof.RefValue

open Cert.ReferenceIdeal Cert.ReferenceIdeal.Gen Cert.ReferenceIdeal.Value
open Cert.Proof.Interp Cert.Proof.Exact Cert.Proof.Triangle Cert.Proof.Mesh Cert.Proof.Ref
open Idealize.ShloMosaic Idealize.ShloMosaic.StableHlo

variable (V : Valuation τ sig (Elt Ideal))

/-- The arguments. -/
abbrev X : FVec Ideal S16x8192x2 .f32 := V (Proc.devRef .tc main_arg0)
abbrev W1 : FVec Ideal S16641 .f32 := V (Proc.devRef .tc main_arg1)
abbrev W2 : FVec Ideal S16641 .f32 := V (Proc.devRef .tc main_arg2)
abbrev X3 : FVec Ideal S32768x2x2 .f32 := V (Proc.devRef .tc main_arg3)
abbrev X4 : FVec Ideal S32768x2 .f32 := V (Proc.devRef .tc main_arg4)
abbrev X5 : IVec S32768x3 32 := V (Proc.devRef .tc main_arg5)

variable (b : Fin 16) (p : Fin 8192)

theorem v3_at : res_main_v3 V (ix2 b p) = scaled (X V (ix3 b p 0)) := by
  unfold res_main_v3
  pointwise [scaled]
theorem v7_at : res_main_v7 V (ix2 b p) = scaled (X V (ix3 b p 1)) := by
  unfold res_main_v7
  pointwise [scaled]

/-- A word that is not negative, wrapped as an index is: itself. -/
theorem wrap_eq (w k : BitVec 32) (h : w.toNat < 2147483648) : Scalar.select (IntOp.cmpi .slt w 0#32) (IntOp.addi w k) w = w := by
  have : ¬IntOp.cmpi .slt w 0#32 = 1#1 := by
    rw [IntOp.cmpi_slt, BitVec.toInt_eq_toNat_of_lt (by omega)]
    rw [show (0#32 : BitVec 32).toInt = 0 from by decide]; omega
  unfold Scalar.select; exact if_neg this

section Point

variable (hc : ∀ i, (cell (X V i)).toNat < 128)
include hc

theorem v10_at : res_main_v10 V (ix2 b p) = cell (X V (ix3 b p 0)) := by
  have h0 := hc (ix3 b p 0)
  obtain ⟨r, hr⟩ := real _ h0
  have e : res_main_v10 V (ix2 b p) = clip (FloatOps.fptosi (F := Ideal) (φ := .f32) 32 (Ideal.liftRound Int.floor (res_main_v3 V (ix2 b p)))) := rfl
  rw [e, v3_at, hr]
  exact clip_floor r (by rw [← hr]; exact h0)

theorem v13_at : res_main_v13 V (ix2 b p) = cell (X V (ix3 b p 1)) := by
  have h0 := hc (ix3 b p 1)
  obtain ⟨r, hr⟩ := real _ h0
  have e : res_main_v13 V (ix2 b p) = clip (FloatOps.fptosi (F := Ideal) (φ := .f32) 32 (Ideal.liftRound Int.floor (res_main_v7 V (ix2 b p)))) := rfl
  rw [e, v7_at, hr]
  exact clip_floor r (by rw [← hr]; exact h0)

theorem v27_at : res_main_v27 V (ix2 b p) = tri (X V (ix3 b p 0)) (X V (ix3 b p 1)) := by
  have e : res_main_v27 V (ix2 b p) = IntOp.addi (IntOp.muli 2#32 (IntOp.addi (IntOp.muli (res_main_v13 V (ix2 b p)) 128#32) (res_main_v10 V (ix2 b p))))
      ((FloatOps.cmpf .ogt (FloatOps.addf (FloatOps.subf (res_main_v3 V (ix2 b p)) (FloatOps.sitofp .f32 (res_main_v10 V (ix2 b p))))
          (FloatOps.subf (res_main_v7 V (ix2 b p)) (FloatOps.sitofp .f32 (res_main_v13 V (ix2 b p))))) (one : Ideal .f32)).setWidth 32) := rfl
  rw [e, v3_at, v7_at, v10_at V b p hc, v13_at V b p hc]; rfl

/-- The triangle. -/
abbrev T : Fin 32768 := at' (hc (ix3 b p 0)) (hc (ix3 b p 1))

/-- The wrapped triangle number, where the three gathers read it. -/
theorem index_at : (broadcastInDim S16x8192x1 ![0, 1] bcast_S16x8192_S16x8192x1_0_1 (select (cmpi .slt (res_main_v27 V) (broadcastInDim S16x8192 ![] bcast_S_S16x8192 (constantI S_ 32 0#32))) (addi (res_main_v27 V) (broadcastInDim S16x8192 ![] bcast_S_S16x8192 (constantI S_ 32 32768#32))) (res_main_v27 V)) (ix3 b p 0)).toInt
      = (T V b p hc).val := by
  have h0 := hc (ix3 b p 0); have h1 := hc (ix3 b p 1)
  have e : (broadcastInDim S16x8192x1 ![0, 1] bcast_S16x8192_S16x8192x1_0_1 (select (cmpi .slt (res_main_v27 V) (broadcastInDim S16x8192 ![] bcast_S_S16x8192 (constantI S_ 32 0#32))) (addi (res_main_v27 V) (broadcastInDim S16x8192 ![] bcast_S_S16x8192 (constantI S_ 32 32768#32))) (res_main_v27 V)) (ix3 b p 0))
      = Scalar.select (IntOp.cmpi .slt (res_main_v27 V (ix2 b p)) 0#32) (IntOp.addi (res_main_v27 V (ix2 b p)) 32768#32) (res_main_v27 V (ix2 b p)) := by
    pointwise []
  rw [e, v27_at V b p hc, wrap_eq _ _ (by have := tri_lt h0 h1; omega)]
  exact tri_toInt h0 h1

variable (hm : ∀ v, At (X3 V) (X4 V) (X5 V) v)
include hm

theorem v48_0 : res_main_v48 V (ix3 b p 0) = dof0 (X V (ix3 b p 0)) (X V (ix3 b p 1)) :=
  (gather_corner _ _ b p 0 _ (index_at V b p hc)).trans (number0 _ _ (hm _))
theorem v48_1 : res_main_v48 V (ix3 b p 1) = dof1 (X V (ix3 b p 0)) (X V (ix3 b p 1)) :=
  (gather_corner _ _ b p 1 _ (index_at V b p hc)).trans (number1 _ _ (hm _))
theorem v48_2 : res_main_v48 V (ix3 b p 2) = dof2 (X V (ix3 b p 0)) (X V (ix3 b p 1)) :=
  (gather_corner _ _ b p 2 _ (index_at V b p hc)).trans (number2 _ _ (hm _))

theorem v50_at (k : Fin 2) : res_main_v50 V (ix3 b p k)
    = ((X V (ix3 b p 0) : EReal) - X4 V (ix2 (T V b p hc) 0)) * X3 V (ix3 (T V b p hc) 0 k)
      + ((X V (ix3 b p 1) : EReal) - X4 V (ix2 (T V b p hc) 1)) * X3 V (ix3 (T V b p hc) 1 k) := by
  unfold res_main_v50
  pointwise [gather_anchor _ _ b p 0 _ (index_at V b p hc), gather_anchor _ _ b p 1 _ (index_at V b p hc),
    gather_minv _ _ b p 0 k _ (index_at V b p hc), gather_minv _ _ b p 1 k _ (index_at V b p hc), Fin.sum_univ_two]

theorem v52_at : res_main_v52 V (ix2 b p) = wgt1 (X V (ix3 b p 0)) (X V (ix3 b p 1)) := by
  have e : res_main_v52 V (ix2 b p) = res_main_v50 V (ix3 b p 0) := by
    unfold res_main_v52
    pointwise []
  rw [e, v50_at V b p hc hm 0, weight1 _ _ (hm _), m10 _ _ (hm _), mul_zero, add_zero]

theorem v54_at : res_main_v54 V (ix2 b p) = wgt2 (X V (ix3 b p 0)) (X V (ix3 b p 1)) := by
  have e : res_main_v54 V (ix2 b p) = res_main_v50 V (ix3 b p 1) := by
    unfold res_main_v54
    pointwise []
  rw [e, v50_at V b p hc hm 1, weight2 _ _ (hm _), m01 _ _ (hm _), mul_zero, zero_add]

theorem v57_at : res_main_v57 V (ix2 b p) = wgt0 (X V (ix3 b p 0)) (X V (ix3 b p 1)) := by
  have e : res_main_v57 V (ix2 b p) = FloatOps.subf (FloatOps.subf (one : Ideal .f32) (res_main_v52 V (ix2 b p))) (res_main_v54 V (ix2 b p)) := rfl
  rw [e, v52_at V b p hc hm, v54_at V b p hc hm]; rfl

omit hc hm in
/-- The table read at a corner whose number is in range. -/
theorem table_at (w : FVec Ideal S16641 .f32) (idx : IVec S16x8192x3 32) (k : Fin 3) (d : BitVec 32) (hd : d.toNat < 16641) (hi : idx (ix3 b p k) = d) :
    Host.gather gather_S16641_S16x8192x3x1_S16x8192x3_n_0_n_n_0_3_1 w (broadcastInDim S16x8192x3x1 ![0, 1, 2] bcast_S16x8192x3_S16x8192x3x1_0_1_2 (select (cmpi .slt idx (broadcastInDim S16x8192x3 ![] bcast_S_S16x8192x3 (constantI S_ 32 0#32))) (addi idx (broadcastInDim S16x8192x3 ![] bcast_S_S16x8192x3 (constantI S_ 32 16641#32))) idx)) (ix3 b p k)
      = tab w d := by
  have e : (broadcastInDim S16x8192x3x1 ![0, 1, 2] bcast_S16x8192x3_S16x8192x3x1_0_1_2 (select (cmpi .slt idx (broadcastInDim S16x8192x3 ![] bcast_S_S16x8192x3 (constantI S_ 32 0#32))) (addi idx (broadcastInDim S16x8192x3 ![] bcast_S_S16x8192x3 (constantI S_ 32 16641#32))) idx)) (ix4 b p k 0)
      = Scalar.select (IntOp.cmpi .slt (idx (ix3 b p k)) 0#32) (IntOp.addi (idx (ix3 b p k)) 16641#32) (idx (ix3 b p k)) := by
    pointwise []
  rw [gather_table w _ b p k ⟨d.toNat, hd⟩ (by rw [e, hi, wrap_eq _ _ (by omega), BitVec.toInt_eq_toNat_of_lt (by omega)])]
  exact (tab_of_lt w d hd _ rfl).symm

theorem v64_0 : res_main_v64 V (ix3 b p 0) = tab (W1 V) (dof0 (X V (ix3 b p 0)) (X V (ix3 b p 1))) :=
  table_at b p (W1 V) (res_main_v48 V) 0 _ (dof0_lt (hc _) (hc _)) (v48_0 V b p hc hm)
theorem v71_0 : res_main_v71 V (ix3 b p 0) = tab (W2 V) (dof0 (X V (ix3 b p 0)) (X V (ix3 b p 1))) :=
  table_at b p (W2 V) (res_main_v48 V) 0 _ (dof0_lt (hc _) (hc _)) (v48_0 V b p hc hm)
theorem v64_1 : res_main_v64 V (ix3 b p 1) = tab (W1 V) (dof1 (X V (ix3 b p 0)) (X V (ix3 b p 1))) :=
  table_at b p (W1 V) (res_main_v48 V) 1 _ (dof1_lt (hc _) (hc _)) (v48_1 V b p hc hm)
theorem v71_1 : res_main_v71 V (ix3 b p 1) = tab (W2 V) (dof1 (X V (ix3 b p 0)) (X V (ix3 b p 1))) :=
  table_at b p (W2 V) (res_main_v48 V) 1 _ (dof1_lt (hc _) (hc _)) (v48_1 V b p hc hm)
theorem v64_2 : res_main_v64 V (ix3 b p 2) = tab (W1 V) (dof2 (X V (ix3 b p 0)) (X V (ix3 b p 1))) :=
  table_at b p (W1 V) (res_main_v48 V) 2 _ (dof2_lt (hc _) (hc _)) (v48_2 V b p hc hm)
theorem v71_2 : res_main_v71 V (ix3 b p 2) = tab (W2 V) (dof2 (X V (ix3 b p 0)) (X V (ix3 b p 1))) :=
  table_at b p (W2 V) (res_main_v48 V) 2 _ (dof2_lt (hc _) (hc _)) (v48_2 V b p hc hm)

/-- The reference's result. -/
def out : FVec Ideal S16x8192x2 .f32 :=
  concatenate S16x8192x2 2 [⟨S16x8192x1, (broadcastInDim S16x8192x1 ![0, 1] bcast_S16x8192_S16x8192x1_0_1 (addf (addf (mulf (res_main_v57 V) (shapeCast _ (extractStridedSlice S16x8192x1 ![0, 0, 0] (res_main_v64 V) slices_S16x8192x3_S16x8192x1_0_0_0) shapeCasts_S16x8192x1_S16x8192)) (mulf (res_main_v52 V) (shapeCast _ (extractStridedSlice S16x8192x1 ![0, 0, 1] (res_main_v64 V) slices_S16x8192x3_S16x8192x1_0_0_1) shapeCasts_S16x8192x1_S16x8192))) (mulf (res_main_v54 V) (shapeCast _ (extractStridedSlice S16x8192x1 ![0, 0, 2] (res_main_v64 V) slices_S16x8192x3_S16x8192x1_0_0_2) shapeCasts_S16x8192x1_S16x8192))))⟩, ⟨S16x8192x1, (broadcastInDim S16x8192x1 ![0, 1] bcast_S16x8192_S16x8192x1_0_1 (addf (addf (mulf (res_main_v57 V) (shapeCast _ (extractStridedSlice S16x8192x1 ![0, 0, 0] (res_main_v71 V) slices_S16x8192x3_S16x8192x1_0_0_0) shapeCasts_S16x8192x1_S16x8192)) (mulf (res_main_v52 V) (shapeCast _ (extractStridedSlice S16x8192x1 ![0, 0, 1] (res_main_v71 V) slices_S16x8192x3_S16x8192x1_0_0_1) shapeCasts_S16x8192x1_S16x8192))) (mulf (res_main_v54 V) (shapeCast _ (extractStridedSlice S16x8192x1 ![0, 0, 2] (res_main_v71 V) slices_S16x8192x3_S16x8192x1_0_0_2) shapeCasts_S16x8192x1_S16x8192))))⟩] concatenates_S16x8192x1_S16x8192x1_S16x8192x2_d2

theorem result_at (k : Fin 2) : out V (ix3 b p k)
    = val (if k = 1 then W2 V else W1 V) (X V (ix3 b p 0)) (X V (ix3 b p 1)) := by
  unfold out
  match k with
  | ⟨0, _⟩ =>
    pointwise [v57_at V b p hc hm, v52_at V b p hc hm, v54_at V b p hc hm, v64_0 V b p hc hm, v64_1 V b p hc hm, v64_2 V b p hc hm]
    rfl
  | ⟨1, _⟩ =>
    pointwise [v57_at V b p hc hm, v52_at V b p hc hm, v54_at V b p hc hm, v71_0 V b p hc hm, v71_1 V b p hc hm, v71_2 V b p hc hm]
    rfl

end Point

/-- The whole result, from arrays that the precondition holds of. -/
theorem out_eq (x : FVec Ideal S16x8192x2 .f32) (w1 w2 : FVec Ideal S16641 .f32) (x3 : FVec Ideal S32768x2x2 .f32) (x4 : FVec Ideal S32768x2 .f32)
    (x5 : IVec S32768x3 32) (h : Cert.Pre_on_the_mesh.fn (F := Ideal) x w1 w2 x3 x4 x5 = fun _ => 1#1)
    (h0 : X V = x) (h1 : W1 V = w1) (h2 : W2 V = w2) (h3 : X3 V = x3) (h4 : X4 V = x4) (h5 : X5 V = x5)
    (y : FVec Ideal S16x8192x2 .f32) (hy : ∀ b p k, y (ix3 b p k) = val (if k = 1 then w2 else w1) (x (ix3 b p 0)) (x (ix3 b p 1))) : out V = y := by
  subst h0 h1 h2 h3 h4 h5
  obtain ⟨hc, hm⟩ := Mesh.read _ _ _ _ _ _ h
  funext i
  rw [eq_ix3 i]
  exact (result_at V _ _ hc hm _).trans (hy _ _ _).symm

end Cert.Proof.RefValue

end
-- ==== Proof.Claims.lean ====
/-
  The claims, each read off the run of its program.

  The kernel is run once, over any reading of the floats (`Cert.Proof.Tile.run_main`); its frame over bit patterns and over the extended
  reals are that run with the values dropped. The value claim is its instance at the extended reals, whose result at each point is the
  same interpolated value as the reference's (`Cert.Proof.RefValue.result_at`).
-/
module

public import proofs.«01_k».proof.Defs
public import proofs.«01_k».proof.Proof.RefValue
public import proofs.«01_k».proof.Proof.Gen.Kernel
public import proofs.«01_k».proof.Proof.Gen.Kernel.Skeleton
public import Idealize.ShloMosaic.Lib.Quiescent

@[expose] public section

noncomputable section

namespace Cert.Proof

open Cert.KernelIdeal Cert.KernelIdeal.Gen
open Cert.Proof.Tile
open Idealize.ShloMosaic Idealize.ShloMosaic.StableHlo Idealize.ShloMosaic.TcCoe Idealize.SL.Sem

/-! ## The kernel's frame -/

/-- What a final state of the kernel says of its arguments and counters. -/
theorem args_of_QC {F : FTy → Type} [FloatOps F] (m : (ℓ : Loc nD τ sig) → Buf (Elt F) ℓ)
    {s : MemSt nD τ sig (Elt F)} (h : (∀ d, ∀ b ∈ arrays, s.mem (d, b) = vals7 m d b) ∧ s.sem = fun _ => 0) (c : Dev nD) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5) := by
  refine ⟨?_, ?_, ?_, ?_, ?_, ?_⟩
  · exact (h.1 c (dr main_arg0) (by decide)).trans (vals7_arg m c main_arg0 (by decide) (by decide) (by decide) (by decide) (by decide) (by decide) (by decide))
  · exact (h.1 c (dr main_arg1) (by decide)).trans (vals7_arg m c main_arg1 (by decide) (by decide) (by decide) (by decide) (by decide) (by decide) (by decide))
  · exact (h.1 c (dr main_arg2) (by decide)).trans (vals7_arg m c main_arg2 (by decide) (by decide) (by decide) (by decide) (by decide) (by decide) (by decide))
  · exact (h.1 c (dr main_arg3) (by decide)).trans (vals7_arg m c main_arg3 (by decide) (by decide) (by decide) (by decide) (by decide) (by decide) (by decide))
  · exact (h.1 c (dr main_arg4) (by decide)).trans (vals7_arg m c main_arg4 (by decide) (by decide) (by decide) (by decide) (by decide) (by decide) (by decide))
  · exact (h.1 c (dr main_arg5) (by decide)).trans (vals7_arg m c main_arg5 (by decide) (by decide) (by decide) (by decide) (by decide) (by decide) (by decide))

/-- The kernel over bit patterns. -/
theorem frame_kernel : Cert.quiescent_Kernel := fun m ρ hpre =>
  (θ_run Cert.KernelIdeal.defs _ _).mono (fun _ h => ⟨args_of_QC m h, h.2⟩)
    (run_main (F := Bits) m ρ (inRange_of m fun d b p k => Range.of_cells_in_range _ _ _ _ _ _ (hpre d) (ix3 b p k)))

/-- The kernel over the extended reals. -/
theorem frame_ideal : Cert.quiescent_KernelIdeal := fun m ρ hpre =>
  (θ_run Cert.KernelIdeal.defs _ _).mono (fun _ h => ⟨args_of_QC m h, h.2⟩)
    (run_main (F := Ideal) m ρ (inRange_of m fun d b p k => Range.of_cells_in_range _ _ _ _ _ _ (hpre d) (ix3 b p k)))

/-- From the tables' precondition, every coordinate in the grid. -/
theorem inRange_mesh (m : (ℓ : Loc nD τ sig) → Buf (Elt Ideal) ℓ) (hpre : Cert.Pre_KernelIdeal_on_the_mesh m) : InRange m :=
  inRange_of m fun d b p k => (Mesh.read _ _ _ _ _ _ (hpre d)).1 (ix3 b p k)

theorem frame_ideal_mesh : Cert.quiescent_KernelIdeal_pre_on_the_mesh := fun m ρ hpre =>
  (θ_run Cert.KernelIdeal.defs _ _).mono (fun _ h => ⟨args_of_QC m h, h.2⟩) (run_main (F := Ideal) m ρ (inRange_mesh m hpre))

/-! ## The reference's frame -/

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_mesh : Cert.quiescent_ReferenceIdeal_pre_on_the_mesh := fun m ρ _ => frame_reference m ρ trivial

/-! ## The value -/

/-- The two results are the same array: at each point the interpolated value of the component's table. -/
theorem results_agree (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (hpre : Cert.Pre_on_the_mesh.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1)
    (h0 : launchContents m' c (Proc.devRef .tc Cert.ReferenceIdeal.main_arg0) = m ((c.tc : Thread nD τ).loc main_arg0))
    (h1 : launchContents m' c (Proc.devRef .tc Cert.ReferenceIdeal.main_arg1) = m ((c.tc : Thread nD τ).loc main_arg1))
    (h2 : launchContents m' c (Proc.devRef .tc Cert.ReferenceIdeal.main_arg2) = m ((c.tc : Thread nD τ).loc main_arg2))
    (h3 : launchContents m' c (Proc.devRef .tc Cert.ReferenceIdeal.main_arg3) = m ((c.tc : Thread nD τ).loc main_arg3))
    (h4 : launchContents m' c (Proc.devRef .tc Cert.ReferenceIdeal.main_arg4) = m ((c.tc : Thread nD τ).loc main_arg4))
    (h5 : launchContents m' c (Proc.devRef .tc Cert.ReferenceIdeal.main_arg5) = m ((c.tc : Thread nD τ).loc main_arg5)) :
    RefValue.out (launchContents m' c) = vals7 m c (dr main_v6) :=
  RefValue.out_eq (launchContents m' c) _ _ _ _ _ _ hpre h0 h1 h2 h3 h4 h5 (vals7 m c (dr main_v6)) (result_apply m c)

theorem value : Cert.algebraic_KernelIdeal_ReferenceIdeal_pre_on_the_mesh := fun m ρ m' ρ' hpre hagree =>
  ⟨fun c => vals7 m c (dr main_v6),
    (θ_run Cert.KernelIdeal.defs _ _).mono (fun _ h c => ⟨h.1 c (dr main_v6) (by decide), args_of_QC m h c⟩)
      (run_main (F := Ideal) m ρ (inRange_mesh m hpre)),
    (θ_run Cert.ReferenceIdeal.defs _ _).mono (fun _ h c => ⟨(h c).1.trans (results_agree m m' c (hpre c) (hagree c).1 (hagree c).2.1
        (hagree c).2.2.1 (hagree c).2.2.2.1 (hagree c).2.2.2.2.1 (hagree c).2.2.2.2.2), (h c).2⟩)
      (Cert.ReferenceIdeal.Value.run (F := Ideal) m' ρ')⟩

end Cert.Proof

end
-- ==== Proof.lean ====
module

public import proofs.«01_k».proof.Defs
public import proofs.«01_k».proof.Proof.Claims
public import proofs.«01_k».proof.Proof.Gen.KernelIdeal.Skeleton

@[expose] public section

noncomputable section

namespace Cert.Proof

theorem claim : Cert.Claim :=
  ⟨Cert.Kernel.Gen.facts, Cert.KernelIdeal.Gen.facts, Cert.ReferenceIdeal.Gen.facts, Cert.Pre_cells_in_range.Gen.facts,
    Cert.Pre_on_the_mesh.Gen.facts, frame_kernel, frame_ideal, frame_ideal_mesh, frame_reference, frame_reference_mesh, trivial, value⟩

end Cert.Proof

end
